-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_defined [hPre_defined : Cert.Pre_defined.Facts] (m : (ℓ : Loc Cert.KernelIdeal.nD Cert.KernelIdeal.τ Cert.KernelIdeal.sig) → Buf (Elt Ideal) ℓ) : Prop :=
  ∀ c : Dev Cert.KernelIdeal.nD,
    (Cert.Pre_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_defined [hPre_defined : Cert.Pre_defined.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_defined [hKernelIdeal : Cert.KernelIdeal.Facts] [hPre_defined : Cert.Pre_defined.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_defined m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_defined [hReferenceIdeal : Cert.ReferenceIdeal.Facts] [hPre_defined : Cert.Pre_defined.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_defined m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_defined [hKernelIdeal : Cert.KernelIdeal.Facts] [hReferenceIdeal : Cert.ReferenceIdeal.Facts] [hPre_defined : Cert.Pre_defined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_defined m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_defined : Cert.Pre_defined.Facts),
    quiescent_Kernel (hKernel := hKernel)
    ∧ quiescent_KernelIdeal (hKernelIdeal := hKernelIdeal)
    ∧ quiescent_KernelIdeal_pre_defined (hKernelIdeal := hKernelIdeal) (hPre_defined := hPre_defined)
    ∧ quiescent_ReferenceIdeal (hReferenceIdeal := hReferenceIdeal)
    ∧ quiescent_ReferenceIdeal_pre_defined (hReferenceIdeal := hReferenceIdeal) (hPre_defined := hPre_defined)
    ∧ preserves_Kernel_KernelIdeal
    ∧ algebraic_KernelIdeal_ReferenceIdeal_pre_defined (hKernelIdeal := hKernelIdeal) (hReferenceIdeal := hReferenceIdeal) (hPre_defined := hPre_defined)
-- ==== Pre_defined.lean ====
abbrev S8x2048x128 : Shape := ⟨3, ![8, 2048, 128]⟩
abbrev S2048x2048 : Shape := ⟨2, ![2048, 2048]⟩
abbrev S8x1x128 : Shape := ⟨3, ![8, 1, 128]⟩
abbrev S128x256 : Shape := ⟨2, ![128, 256]⟩
abbrev S256 : Shape := ⟨1, ![256]⟩
abbrev S3x1x128x3 : Shape := ⟨4, ![3, 1, 128, 3]⟩
abbrev S1x1x3 : Shape := ⟨3, ![1, 1, 3]⟩
abbrev S_ : Shape := ⟨0, ![]⟩
abbrev S2048 : Shape := ⟨1, ![2048]⟩

class Facts : Prop where
  reducesTo_S2048x2048_S2048_d1 : S2048x2048.ReducesTo [1] S2048
  h_S_ : 0 < S_.numel
  bcast_S_S2048 : S_.BroadcastsInDim S2048 (![] : Fin 0 → Fin S2048.rank)
  bcast_S_S8x1x128 : S_.BroadcastsInDim S8x1x128 (![] : Fin 0 → Fin S8x1x128.rank)
  bcast_S_S128x256 : S_.BroadcastsInDim S128x256 (![] : Fin 0 → Fin S128x256.rank)
  bcast_S_S256 : S_.BroadcastsInDim S256 (![] : Fin 0 → Fin S256.rank)
  bcast_S_S3x1x128x3 : S_.BroadcastsInDim S3x1x128x3 (![] : Fin 0 → Fin S3x1x128x3.rank)

variable [Facts]

def fn {F : FTy → Type} [FloatOps F] (main_arg0 : FVec F S8x2048x128 .f32) (main_arg1 : FVec F S2048x2048 .f32) (main_arg2 : FVec F S8x1x128 .f32) (main_arg3 : FVec F S128x256 .f32) (main_arg4 : FVec F S256 .f32) (main_arg5 : FVec F S3x1x128x3 .f32) (main_arg6 : FVec F S1x1x3 .f32) : IVec S2048 1 × IVec S8x1x128 1 × IVec S128x256 1 × IVec S256 1 × IVec S3x1x128x3 1 :=
  let main_cst : FVec F S_ .f32 := constant S_ .f32 0x00000000#32
  let main_v0 : FVec F S2048 .f32 := (fun x v => Host.reduceAdd x v reducesTo_S2048x2048_S2048_d1 h_S_) main_arg1 main_cst
  let main_cst_0 : FVec F S_ .f32 := constant S_ .f32 0x00000000#32
  let main_v1 : FVec F S2048 .f32 := broadcastInDim S2048 ![] bcast_S_S2048 main_cst_0
  let main_v2 : IVec S2048 1 := cmpf .une main_v0 main_v1
  let main_cst_1 : FVec F S_ .f32 := constant S_ .f32 0x7F800000#32
  let main_v3 : FVec F S8x1x128 .f32 := broadcastInDim S8x1x128 ![] bcast_S_S8x1x128 main_cst_1
  let main_v4 : IVec S8x1x128 1 := cmpf .olt main_arg2 main_v3
  let main_v5 : FVec F S128x256 .f32 := Host.absf main_arg3
  let main_cst_2 : FVec F S_ .f32 := constant S_ .f32 0x7F800000#32
  let main_v6 : FVec F S128x256 .f32 := broadcastInDim S128x256 ![] bcast_S_S128x256 main_cst_2
  let main_v7 : IVec S128x256 1 := cmpf .olt main_v5 main_v6
  let main_v8 : FVec F S256 .f32 := Host.absf main_arg4
  let main_cst_3 : FVec F S_ .f32 := constant S_ .f32 0x7F800000#32
  let main_v9 : FVec F S256 .f32 := broadcastInDim S256 ![] bcast_S_S256 main_cst_3
  let main_v10 : IVec S256 1 := cmpf .olt main_v8 main_v9
  let main_v11 : FVec F S3x1x128x3 .f32 := Host.absf main_arg5
  let main_cst_4 : FVec F S_ .f32 := constant S_ .f32 0x7F800000#32
  let main_v12 : FVec F S3x1x128x3 .f32 := broadcastInDim S3x1x128x3 ![] bcast_S_S3x1x128x3 main_cst_4
  let main_v13 : IVec S3x1x128x3 1 := cmpf .olt main_v11 main_v12
  (main_v2, main_v4, main_v7, main_v10, main_v13)
-- ==== Kernel.lean ====
abbrev S8x2048x128 : Shape := ⟨3, ![8, 2048, 128]⟩
abbrev S2048x2048 : Shape := ⟨2, ![2048, 2048]⟩
abbrev S8x1x128 : Shape := ⟨3, ![8, 1, 128]⟩
abbrev S128x256 : Shape := ⟨2, ![128, 256]⟩
abbrev S256 : Shape := ⟨1, ![256]⟩
abbrev S3x1x128x3 : Shape := ⟨4, ![3, 1, 128, 3]⟩
abbrev S1x1x3 : Shape := ⟨3, ![1, 1, 3]⟩
abbrev S8x128 : Shape := ⟨2, ![8, 128]⟩
abbrev S1x256 : Shape := ⟨2, ![1, 256]⟩
abbrev S1x1x128x3 : Shape := ⟨4, ![1, 1, 128, 3]⟩
abbrev S1x128x3 : Shape := ⟨3, ![1, 128, 3]⟩
abbrev S_ : Shape := ⟨0, ![]⟩
abbrev S3x128x3 : Shape := ⟨3, ![3, 128, 3]⟩
abbrev S8x8 : Shape := ⟨2, ![8, 8]⟩
abbrev S1x8x1x8x1 : Shape := ⟨5, ![1, 8, 1, 8, 1]⟩
abbrev S3x1x128x1x3 : Shape := ⟨5, ![3, 1, 128, 1, 3]⟩
abbrev S3x8x128x8x3 : Shape := ⟨5, ![3, 8, 128, 8, 3]⟩
abbrev S3x8x128x24 : Shape := ⟨4, ![3, 8, 128, 24]⟩
abbrev S1x3 : Shape := ⟨2, ![1, 3]⟩
abbrev S1x1x1x3 : Shape := ⟨4, ![1, 1, 1, 3]⟩
abbrev S1x1x8x3 : Shape := ⟨4, ![1, 1, 8, 3]⟩
abbrev S1x24 : Shape := ⟨2, ![1, 24]⟩
abbrev S2048x24 : Shape := ⟨2, ![2048, 24]⟩
abbrev S8x1024x128 : Shape := ⟨3, ![8, 1024, 128]⟩
abbrev S1024x24 : Shape := ⟨2, ![1024, 24]⟩
abbrev S2048x1 : Shape := ⟨2, ![2048, 1]⟩
abbrev S8x256 : Shape := ⟨2, ![8, 256]⟩
abbrev S8x1024 : Shape := ⟨2, ![8, 1024]⟩
abbrev S8x1024x1 : Shape := ⟨3, ![8, 1024, 1]⟩
abbrev S1x1024x128 : Shape := ⟨3, ![1, 1024, 128]⟩
abbrev S1024x128 : Shape := ⟨2, ![1024, 128]⟩
abbrev S1x1x128x24 : Shape := ⟨4, ![1, 1, 128, 24]⟩
abbrev S128x24 : Shape := ⟨2, ![128, 24]⟩
abbrev S1024x2048 : Shape := ⟨2, ![1024, 2048]⟩
abbrev S1024 : Shape := ⟨1, ![1024]⟩
abbrev S1024x1 : Shape := ⟨2, ![1024, 1]⟩
abbrev S2048x8x3 : Shape := ⟨3, ![2048, 8, 3]⟩
abbrev S8x2048x3 : Shape := ⟨3, ![8, 2048, 3]⟩

abbrev nBuf : Space → Nat
  | .hbm => 48
  | .vmem => 15
  | .smem => 0
  | _ => 0

abbrev bufTy : (tb : Table) → Fin (tcTables nBuf tb) → BufTy
  | .hbm, ⟨0, _⟩ => ⟨S8x2048x128, .f32⟩
  | .hbm, ⟨1, _⟩ => ⟨S2048x2048, .f32⟩
  | .hbm, ⟨2, _⟩ => ⟨S8x1x128, .f32⟩
  | .hbm, ⟨3, _⟩ => ⟨S128x256, .f32⟩
  | .hbm, ⟨4, _⟩ => ⟨S256, .f32⟩
  | .hbm, ⟨5, _⟩ => ⟨S3x1x128x3, .f32⟩
  | .hbm, ⟨6, _⟩ => ⟨S1x1x3, .f32⟩
  | .hbm, ⟨7, _⟩ => ⟨S8x128, .f32⟩
  | .hbm, ⟨8, _⟩ => ⟨S1x256, .f32⟩
  | .hbm, ⟨9, _⟩ => ⟨S1x1x128x3, .f32⟩
  | .hbm, ⟨10, _⟩ => ⟨S1x128x3, .f32⟩
  | .hbm, ⟨11, _⟩ => ⟨S1x1x128x3, .f32⟩
  | .hbm, ⟨12, _⟩ => ⟨S1x128x3, .f32⟩
  | .hbm, ⟨13, _⟩ => ⟨S1x128x3, .f32⟩
  | .hbm, ⟨14, _⟩ => ⟨S1x1x128x3, .f32⟩
  | .hbm, ⟨15, _⟩ => ⟨S1x128x3, .f32⟩
  | .hbm, ⟨16, _⟩ => ⟨S1x128x3, .f32⟩
  | .hbm, ⟨17, _⟩ => ⟨S1x1x128x3, .f32⟩
  | .hbm, ⟨18, _⟩ => ⟨S1x128x3, .f32⟩
  | .hbm, ⟨19, _⟩ => ⟨S1x1x128x3, .f32⟩
  | .hbm, ⟨20, _⟩ => ⟨S1x128x3, .f32⟩
  | .hbm, ⟨21, _⟩ => ⟨S_, .f32⟩
  | .hbm, ⟨22, _⟩ => ⟨S1x128x3, .f32⟩
  | .hbm, ⟨23, _⟩ => ⟨S1x128x3, .f32⟩
  | .hbm, ⟨24, _⟩ => ⟨S1x128x3, .f32⟩
  | .hbm, ⟨25, _⟩ => ⟨S1x1x128x3, .f32⟩
  | .hbm, ⟨26, _⟩ => ⟨S1x128x3, .f32⟩
  | .hbm, ⟨27, _⟩ => ⟨S3x128x3, .f32⟩
  | .hbm, ⟨28, _⟩ => ⟨S8x8, .i32⟩
  | .hbm, ⟨29, _⟩ => ⟨S8x8, .i32⟩
  | .hbm, ⟨30, _⟩ => ⟨S_, .i32⟩
  | .hbm, ⟨31, _⟩ => ⟨S8x8, .i32⟩
  | .hbm, ⟨32, _⟩ => ⟨S8x8, .i32⟩
  | .hbm, ⟨33, _⟩ => ⟨S8x8, .i1⟩
  | .hbm, ⟨34, _⟩ => ⟨S8x8, .f32⟩
  | .hbm, ⟨35, _⟩ => ⟨S1x8x1x8x1, .f32⟩
  | .hbm, ⟨36, _⟩ => ⟨S3x1x128x1x3, .f32⟩
  | .hbm, ⟨37, _⟩ => ⟨S3x8x128x8x3, .f32⟩
  | .hbm, ⟨38, _⟩ => ⟨S3x8x128x8x3, .f32⟩
  | .hbm, ⟨39, _⟩ => ⟨S3x8x128x8x3, .f32⟩
  | .hbm, ⟨40, _⟩ => ⟨S3x8x128x24, .f32⟩
  | .hbm, ⟨41, _⟩ => ⟨S1x3, .f32⟩
  | .hbm, ⟨42, _⟩ => ⟨S1x1x1x3, .f32⟩
  | .hbm, ⟨43, _⟩ => ⟨S1x1x8x3, .f32⟩
  | .hbm, ⟨44, _⟩ => ⟨S1x24, .f32⟩
  | .hbm, ⟨45, _⟩ => ⟨S2048x24, .f32⟩
  | .hbm, ⟨46, _⟩ => ⟨S2048x8x3, .f32⟩
  | .hbm, ⟨47, _⟩ => ⟨S8x2048x3, .f32⟩
  | .local _ .vmem, ⟨0, _⟩ => ⟨S8x1024x128, .f32⟩
  | .local _ .vmem, ⟨1, _⟩ => ⟨S8x1024x128, .f32⟩
  | .local _ .vmem, ⟨2, _⟩ => ⟨S8x128, .f32⟩
  | .local _ .vmem, ⟨3, _⟩ => ⟨S128x256, .f32⟩
  | .local _ .vmem, ⟨4, _⟩ => ⟨S1x256, .f32⟩
  | .local _ .vmem, ⟨5, _⟩ => ⟨S3x8x128x24, .f32⟩
  | .local _ .vmem, ⟨6, _⟩ => ⟨S1x24, .f32⟩
  | .local _ .vmem, ⟨7, _⟩ => ⟨S1024x24, .f32⟩
  | .local _ .vmem, ⟨8, _⟩ => ⟨S1024x24, .f32⟩
  | .local _ .vmem, ⟨9, _⟩ => ⟨S2048x2048, .f32⟩
  | .local _ .vmem, ⟨10, _⟩ => ⟨S2048x1, .f32⟩
  | .local _ .vmem, ⟨11, _⟩ => ⟨S2048x24, .f32⟩
  | .local _ .vmem, ⟨12, _⟩ => ⟨S2048x24, .f32⟩
  | .local _ .vmem, ⟨13, _⟩ => ⟨S2048x24, .f32⟩
  | .local _ .vmem, ⟨14, _⟩ => ⟨S2048x24, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg0 : BitVec 32 := BitVec.ofNat 32 (i 0).val
  let c0_i32_2 : BitVec 32 := 0#32
  let v6 : BitVec 1 := Scalar.cmpi .eq arg0 c0_i32_2
  let v7 : BitVec 32 := Scalar.extui v6
  let c0_i32_3 : BitVec 32 := 0#32
  let v8 : BitVec 1 := Scalar.cmpi .ne v7 c0_i32_3
  v8

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v185 : Index := Scalar.indexCast v0
  let c0_144 : Index := 0#32
  ![v185.toNat, 0]
def k0_cond4 (i : grid0.Coords) : BitVec 1 :=
  let arg0 : BitVec 32 := BitVec.ofNat 32 (i 0).val
  let c1_i32_6 : BitVec 32 := 1#32
  let v14 : BitVec 1 := Scalar.cmpi .eq arg0 c1_i32_6
  let v15 : BitVec 32 := Scalar.extui v14
  let c0_i32_7 : BitVec 32 := 0#32
  let v16 : BitVec 1 := Scalar.cmpi .ne v15 c0_i32_7
  v16

def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v28 : Index := Scalar.indexCast v0
  let c0 : Index := 0#32
  ![v28.toNat, 0]
def k0_off3 (i : grid0.Coords) : Fin 2 → Nat :=
  let arg1 : BitVec 32 := BitVec.ofNat 32 (i 1).val
  let c1024_i32 : BitVec 32 := 1024#32
  let v0 : BitVec 32 := Scalar.muli arg1 c1024_i32
  let v35 : Index := Scalar.indexCast v0
  let c0_14 : Index := 0#32
  ![v35.toNat, 0]
def k0_off4 (i : grid0.Coords) : Fin 2 → Nat :=
  let arg1 : BitVec 32 := BitVec.ofNat 32 (i 1).val
  let c1024_i32 : BitVec 32 := 1024#32
  let v0 : BitVec 32 := Scalar.muli arg1 c1024_i32
  let v39 : Index := Scalar.indexCast v0
  let c0_15 : Index := 0#32
  ![v39.toNat, 0]
def k0_cond5 (i : grid0.Coords) : BitVec 1 :=
  let arg0 : BitVec 32 := BitVec.ofNat 32 (i 0).val
  let c2_i32 : BitVec 32 := 2#32
  let v17 : BitVec 1 := Scalar.cmpi .eq arg0 c2_i32
  let v18 : BitVec 32 := Scalar.extui v17
  let c0_i32_8 : BitVec 32 := 0#32
  let v19 : BitVec 1 := Scalar.cmpi .ne v18 c0_i32_8
  v19

def k0_off5 (i : grid0.Coords) : Fin 2 → Nat :=
  let arg1 : BitVec 32 := BitVec.ofNat 32 (i 1).val
  let c1024_i32 : BitVec 32 := 1024#32
  let v0 : BitVec 32 := Scalar.muli arg1 c1024_i32
  let v28 : Index := Scalar.indexCast v0
  let c0 : Index := 0#32
  ![v28.toNat, 0]
def k0_off6 (i : grid0.Coords) : Fin 2 → Nat :=
  let arg1 : BitVec 32 := BitVec.ofNat 32 (i 1).val
  let c1024_i32 : BitVec 32 := 1024#32
  let v0 : BitVec 32 := Scalar.muli arg1 c1024_i32
  let v32 : Index := Scalar.indexCast v0
  let c0_15 : Index := 0#32
  ![v32.toNat, 0]
def k0_cond7 (i : grid0.Coords) : BitVec 1 :=
  let arg0 : BitVec 32 := BitVec.ofNat 32 (i 0).val
  let c3_i32_11 : BitVec 32 := 3#32
  let v25 : BitVec 1 := Scalar.cmpi .eq arg0 c3_i32_11
  let v26 : BitVec 32 := Scalar.extui v25
  let c0_i32_12 : BitVec 32 := 0#32
  let v27 : BitVec 1 := Scalar.cmpi .ne v26 c0_i32_12
  v27

def k0_off7 (i : grid0.Coords) : Fin 2 → Nat :=
  let arg1 : BitVec 32 := BitVec.ofNat 32 (i 1).val
  let c1024_i32 : BitVec 32 := 1024#32
  let v0 : BitVec 32 := Scalar.muli arg1 c1024_i32
  let v28 : Index := Scalar.indexCast v0
  let c0 : Index := 0#32
  ![v28.toNat, 0]
def k0_off8 (i : grid0.Coords) : Fin 2 → Nat :=
  let arg1 : BitVec 32 := BitVec.ofNat 32 (i 1).val
  let c1024_i32 : BitVec 32 := 1024#32
  let v0 : BitVec 32 := Scalar.muli arg1 c1024_i32
  let v32 : Index := Scalar.indexCast v0
  let c0_15 : Index := 0#32
  ![v32.toNat, 0]
def k0_off9 (i : grid0.Coords) : Fin 2 → Nat :=
  let arg1 : BitVec 32 := BitVec.ofNat 32 (i 1).val
  let c1024_i32 : BitVec 32 := 1024#32
  let v0 : BitVec 32 := Scalar.muli arg1 c1024_i32
  let v34 : Index := Scalar.indexCast v0
  let c0_16 : Index := 0#32
  ![v34.toNat, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x8x128x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x24 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x2048x128 : Shape := ⟨3, ![8, 2048, 128]⟩
abbrev S2048x2048 : Shape := ⟨2, ![2048, 2048]⟩
abbrev S8x1x128 : Shape := ⟨3, ![8, 1, 128]⟩
abbrev S128x256 : Shape := ⟨2, ![128, 256]⟩
abbrev S256 : Shape := ⟨1, ![256]⟩
abbrev S3x1x128x3 : Shape := ⟨4, ![3, 1, 128, 3]⟩
abbrev S1x1x3 : Shape := ⟨3, ![1, 1, 3]⟩
abbrev S_ : Shape := ⟨0, ![]⟩
abbrev S8x1x256 : Shape := ⟨3, ![8, 1, 256]⟩
abbrev S1x1x256 : Shape := ⟨3, ![1, 1, 256]⟩
abbrev S8x2048 : Shape := ⟨2, ![8, 2048]⟩
abbrev S8x2048x1 : Shape := ⟨3, ![8, 2048, 1]⟩
abbrev S2048 : Shape := ⟨1, ![2048]⟩
abbrev S2048x1 : Shape := ⟨2, ![2048, 1]⟩
abbrev S1x2048 : Shape := ⟨2, ![1, 2048]⟩
abbrev S1x2048x2048 : Shape := ⟨3, ![1, 2048, 2048]⟩
abbrev S3x2048x2048 : Shape := ⟨3, ![3, 2048, 2048]⟩
abbrev S3x1x2048x2048 : Shape := ⟨4, ![3, 1, 2048, 2048]⟩
abbrev S3x2048x8x128 : Shape := ⟨4, ![3, 2048, 8, 128]⟩
abbrev S3x8x2048x128 : Shape := ⟨4, ![3, 8, 2048, 128]⟩
abbrev S3x128x3 : Shape := ⟨3, ![3, 128, 3]⟩
abbrev S3x8x2048x3 : Shape := ⟨4, ![3, 8, 2048, 3]⟩
abbrev S8x2048x3 : Shape := ⟨3, ![8, 2048, 3]⟩

abbrev nBuf : Space → Nat
  | .hbm => 106
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S2048x2048, .f32⟩
  | .hbm, ⟨2, _⟩ => ⟨S8x1x128, .f32⟩
  | .hbm, ⟨3, _⟩ => ⟨S128x256, .f32⟩
  | .hbm, ⟨4, _⟩ => ⟨S256, .f32⟩
  | .hbm, ⟨5, _⟩ => ⟨S3x1x128x3, .f32⟩
  | .hbm, ⟨6, _⟩ => ⟨S1x1x3, .f32⟩
  | .hbm, ⟨7, _⟩ => ⟨S8x1x128, .f32⟩
  | .hbm, ⟨8, _⟩ => ⟨S8x1x128, .f32⟩
  | .hbm, ⟨9, _⟩ => ⟨S_, .f32⟩
  | .hbm, ⟨10, _⟩ => ⟨S8x1x128, .f32⟩
  | .hbm, ⟨11, _⟩ => ⟨S8x1x128, .f32⟩
  | .hbm, ⟨12, _⟩ => ⟨S_, .f32⟩
  | .hbm, ⟨13, _⟩ => ⟨S8x1x128, .f32⟩
  | .hbm, ⟨14, _⟩ => ⟨S8x1x128, .f32⟩
  | .hbm, ⟨15, _⟩ => ⟨S8x1x128, .f32⟩
  | .hbm, ⟨16, _⟩ => ⟨S8x1x256, .f32⟩
  | .hbm, ⟨17, _⟩ => ⟨S1x1x256, .f32⟩
  | .hbm, ⟨18, _⟩ => ⟨S8x1x256, .f32⟩
  | .hbm, ⟨19, _⟩ => ⟨S8x1x256, .f32⟩
  | .hbm, ⟨20, _⟩ => ⟨S8x1x128, .f32⟩
  | .hbm, ⟨21, _⟩ => ⟨S8x1x128, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S_, .i32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S8x2048x128, .f32⟩
  | .hbm, ⟨36, _⟩ => ⟨S8x2048x128, .f32⟩
  | .hbm, ⟨37, _⟩ => ⟨S8x2048x128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S_, .f32⟩
  | .hbm, ⟨47, _⟩ => ⟨S_, .i1⟩
  | .hbm, ⟨48, _⟩ => ⟨S_, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x128, .f32⟩
  | .hbm, ⟨53, _⟩ => ⟨S8x2048x128, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1, .f32⟩
  | .hbm, ⟨58, _⟩ => ⟨S8x2048x128, .f32⟩
  | .hbm, ⟨59, _⟩ => ⟨S8x2048x128, .f32⟩
  | .hbm, ⟨60, _⟩ => ⟨S_, .f32⟩
  | .hbm, ⟨61, _⟩ => ⟨S8x1x128, .f32⟩
  | .hbm, ⟨62, _⟩ => ⟨S8x1x128, .f32⟩
  | .hbm, ⟨63, _⟩ => ⟨S8x2048x128, .f32⟩
  | .hbm, ⟨64, _⟩ => ⟨S8x2048x128, .f32⟩
  | .hbm, ⟨65, _⟩ => ⟨S8x2048x128, .f32⟩
  | .hbm, ⟨66, _⟩ => ⟨S8x2048x128, .f32⟩
  | .hbm, ⟨67, _⟩ => ⟨S_, .f32⟩
  | .hbm, ⟨68, _⟩ => ⟨S2048, .f32⟩
  | .hbm, ⟨69, _⟩ => ⟨S2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S2048x2048, .i32⟩
  | .hbm, ⟨74, _⟩ => ⟨S2048x2048, .i32⟩
  | .hbm, ⟨75, _⟩ => ⟨S_, .i32⟩
  | .hbm, ⟨76, _⟩ => ⟨S2048x2048, .i32⟩
  | .hbm, ⟨77, _⟩ => ⟨S2048x2048, .i32⟩
  | .hbm, ⟨78, _⟩ => ⟨S2048x2048, .i1⟩
  | .hbm, ⟨79, _⟩ => ⟨S2048x2048, .f32⟩
  | .hbm, ⟨80, _⟩ => ⟨S2048x1, .f32⟩
  | .hbm, ⟨81, _⟩ => ⟨S2048x2048, .f32⟩
  | .hbm, ⟨82, _⟩ => ⟨S2048x2048, .f32⟩
  | .hbm, ⟨83, _⟩ => ⟨S1x2048, .f32⟩
  | .hbm, ⟨84, _⟩ => ⟨S2048x2048, .f32⟩
  | .hbm, ⟨85, _⟩ => ⟨S2048x2048, .f32⟩
  | .hbm, ⟨86, _⟩ => ⟨S2048x2048, .f32⟩
  | .hbm, ⟨87, _⟩ => ⟨S2048x2048, .f32⟩
  | .hbm, ⟨88, _⟩ => ⟨S_, .f32⟩
  | .hbm, ⟨89, _⟩ => ⟨S2048x2048, .f32⟩
  | .hbm, ⟨90, _⟩ => ⟨S2048x2048, .f32⟩
  | .hbm, ⟨91, _⟩ => ⟨S2048x2048, .f32⟩
  | .hbm, ⟨92, _⟩ => ⟨S1x2048x2048, .f32⟩
  | .hbm, ⟨93, _⟩ => ⟨S1x2048x2048, .f32⟩
  | .hbm, ⟨94, _⟩ => ⟨S1x2048x2048, .f32⟩
  | .hbm, ⟨95, _⟩ => ⟨S3x2048x2048, .f32⟩
  | .hbm, ⟨96, _⟩ => ⟨S3x1x2048x2048, .f32⟩
  | .hbm, ⟨97, _⟩ => ⟨S3x2048x2048, .f32⟩
  | .hbm, ⟨98, _⟩ => ⟨S3x2048x8x128, .f32⟩
  | .hbm, ⟨99, _⟩ => ⟨S3x8x2048x128, .f32⟩
  | .hbm, ⟨100, _⟩ => ⟨S3x128x3, .f32⟩
  | .hbm, ⟨101, _⟩ => ⟨S3x8x2048x3, .f32⟩
  | .hbm, ⟨102, _⟩ => ⟨S_, .f32⟩
  | .hbm, ⟨103, _⟩ => ⟨S8x2048x3, .f32⟩
  | .hbm, ⟨104, _⟩ => ⟨S8x2048x3, .f32⟩
  | .hbm, ⟨105, _⟩ => ⟨S8x2048x3, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_call1_cst : Ref sig .tc := ⟨.hbm, 29, rfl⟩
abbrev main_call1_v0 : Ref sig .tc := ⟨.hbm, 30, rfl⟩
abbrev main_call1_v1 : Ref sig .tc := ⟨.hbm, 31, rfl⟩
abbrev main_call1_cst_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_cst_1 : Ref sig .tc := ⟨.hbm, 39, rfl⟩
abbrev main_call1_v8 : Ref sig .tc := ⟨.hbm, 40, rfl⟩
abbrev main_call1_cst_2 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_cst_3 : Ref sig .tc := ⟨.hbm, 46, rfl⟩
abbrev main_call1_v13 : Ref sig .tc := ⟨.hbm, 47, rfl⟩
abbrev main_call1_cst_4 : Ref sig .tc := ⟨.hbm, 48, rfl⟩
abbrev main_call1_call0_v0 : Ref sig .tc := ⟨.hbm, 49, rfl⟩
abbrev main_call1_call0_v1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst_1 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_cst_2 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_cst_3 : Ref sig .tc := ⟨.hbm, 67, rfl⟩
abbrev main_v25 : Ref sig .tc := ⟨.hbm, 68, rfl⟩
abbrev main_v26 : Ref sig .tc := ⟨.hbm, 69, rfl⟩
abbrev main_cst_4 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_c_5 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_6 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_7 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩

abbrev nD : Nat := 1
abbrev τ : Topo := Topo.v7x

variable {F : FTy → Type} [FloatOps F]
-- ==== Proof.Blocks.lean ====
module

public import Idealize.ShloMosaic.Lib.WritesUnit
public import Idealize.ShloMosaic.Lib.VecWindow
public import Idealize.ShloMosaic.Lib.Pointwise.Index
public import Idealize.ShloMosaic.Lib.Pipeline.FrameBody

@[expose] public section

/-! The two halves, of 1024 rows each, of an array of 2048 rows. -/

namespace Cert.Halves

open Idealize.ShloMosaic

/-- An array of 2048 rows of `w` columns, and one half of it. -/
abbrev Big (w : ℕ) : Shape := ⟨2, ![2048, w]⟩
abbrev Half (w : ℕ) : Shape := ⟨2, ![1024, w]⟩

variable {α : Type} {w : ℕ}

/-- Half `p` of the array `G`. -/
def blk (p : Fin 2) (G : (Big w).Idx → α) : (Half w).Idx → α :=
  fun x => G (ix2 ⟨p.val * 1024 + (x (0 : Fin 2)).val, by have h : (x (0 : Fin 2)).val < 1024 := (x (0 : Fin 2)).isLt; omega⟩ (x (1 : Fin 2)))

/-- Row `y` of an array of 2048 rows, counted within its half. -/
def loc (y : (Big w).Idx) : (Half w).Idx := ix2 ⟨(y (0 : Fin 2)).val % 1024, Nat.mod_lt _ (by decide)⟩ (y (1 : Fin 2))

/-- The half row `y` lies in. -/
def halfOf (y : (Big w).Idx) : Fin 2 := ⟨(y (0 : Fin 2)).val / 1024, by have h : (y (0 : Fin 2)).val < 2048 := (y (0 : Fin 2)).isLt; omega⟩

/-- The array with halves `f 0` and `f 1`. -/
def cat (f : Fin 2 → (Half w).Idx → α) : (Big w).Idx → α := fun y => f (halfOf y) (loc y)

/-- The array `X` with half `p` replaced by `u`. -/
def putB (p : Fin 2) (X : (Big w).Idx → α) (u : (Half w).Idx → α) : (Big w).Idx → α :=
  fun y => if halfOf y = p then u (loc y) else X y

theorem halfOf_row (p : Fin 2) (x : (Half w).Idx) (h) : halfOf (w := w) (ix2 ⟨p.val * 1024 + (x (0 : Fin 2)).val, h⟩ (x (1 : Fin 2))) = p := by
  have hx : (x (0 : Fin 2)).val < 1024 := (x (0 : Fin 2)).isLt
  refine Fin.ext ?_
  show (p.val * 1024 + (x (0 : Fin 2)).val) / 1024 = p.val
  omega

theorem loc_row (p : Fin 2) (x : (Half w).Idx) (h) : loc (w := w) (ix2 ⟨p.val * 1024 + (x (0 : Fin 2)).val, h⟩ (x (1 : Fin 2))) = x := by
  have hx : (x (0 : Fin 2)).val < 1024 := (x (0 : Fin 2)).isLt
  refine funext (Fin.forall_fin_two.mpr ⟨Fin.ext ?_, by rfl⟩)
  show (p.val * 1024 + (x (0 : Fin 2)).val) % 1024 = (x (0 : Fin 2)).val
  omega

theorem row_loc (y : (Big w).Idx) (h) : ix2 ⟨(halfOf y).val * 1024 + ((loc y) (0 : Fin 2)).val, h⟩ ((loc y) (1 : Fin 2)) = y := by
  refine funext (Fin.forall_fin_two.mpr ⟨Fin.ext ?_, by rfl⟩)
  show (y (0 : Fin 2)).val / 1024 * 1024 + (y (0 : Fin 2)).val % 1024 = (y (0 : Fin 2)).val
  omega

/-- A half of the array of two halves is that half. -/
theorem blk_cat (p : Fin 2) (f : Fin 2 → (Half w).Idx → α) : blk p (cat f) = f p := by
  funext x
  unfold blk cat
  rw [halfOf_row, loc_row]

/-- An array at a row is its half at the row within the half. -/
theorem blk_loc (G : (Big w).Idx → α) (y : (Big w).Idx) : blk (halfOf y) G (loc y) = G y := by
  unfold blk
  exact congrArg G (row_loc y _)

theorem blk_putB_same (p : Fin 2) (X : (Big w).Idx → α) (u : (Half w).Idx → α) : blk p (putB p X u) = u := by
  funext x
  unfold blk putB
  rw [halfOf_row, loc_row, if_pos rfl]

theorem blk_putB_other (p q : Fin 2) (hq : q ≠ p) (X : (Big w).Idx → α) (u : (Half w).Idx → α) : blk q (putB p X u) = blk q X := by
  funext x
  unfold blk putB
  rw [halfOf_row, if_neg hq]

/-- Both halves stored: the array of the two. -/
theorem putB_putB (X : (Big w).Idx → α) (f : Fin 2 → (Half w).Idx → α) : putB 1 (putB 0 X (f 0)) (f 1) = cat f := by
  funext y
  unfold putB cat
  obtain h | h : halfOf y = 0 ∨ halfOf y = 1 := by
    revert y; intro y; generalize halfOf y = q; revert q; decide
  · rw [h, if_neg (by decide), if_pos rfl]
  · rw [h, if_pos rfl]

section View

variable {sig : RefSig} {κ : Kind} {sp : Space} {e : EltTy} {Val : EltTy → Type}

/-- A load of the 1024 rows from row `1024 p` on reads half `p`. -/
theorem readAt_blk (v : View sig κ sp (Big w) e) (f : v.ty.Contents Val) {off : Fin 2 → ℕ} (p : Fin 2) (ho : off = ![p.val * 1024, 0])
    (inb : ∀ a : Fin 2, off a + (Half w).size a ≤ (Big w).size a) :
    v.readAt Val (Rect.unit (s := Big w) off (Half w).size inb).toLoadRect f = blk p (v.read Val f) := by
  subst ho
  funext x
  rw [View.readAt_eq_ld]
  unfold View.ld blk
  refine congrArg (v.read Val f) (funext (Fin.forall_fin_two.mpr ⟨Fin.ext ?_, Fin.ext ?_⟩))
  · show p.val * 1024 + 1 * (x (0 : Fin 2)).val = _
    rw [one_mul]; rfl
  · show 0 + 1 * (x (1 : Fin 2)).val = (x (1 : Fin 2)).val
    omega

/-- A store to the 1024 rows from row `1024 p` on replaces half `p`. -/
theorem read_writes_putB (v : View sig κ sp (Big w) e) (f : v.ty.Contents Val) {off : Fin 2 → ℕ} (p : Fin 2) (ho : off = ![p.val * 1024, 0])
    (inb : ∀ a : Fin 2, off a + (Half w).size a ≤ (Big w).size a) (u : (Half w).Idx → Val e) :
    v.read Val (v.writes Val f [(⟨Rect.unit (s := Big w) off (Half w).size inb, u⟩ : View.Piece Val (Big w) e)]) = putB p (v.read Val f) u := by
  funext y
  unfold putB
  by_cases h : halfOf y = p
  · rw [if_pos h]
    have hv : (y (0 : Fin 2)).val / 1024 = p.val := congrArg Fin.val h
    refine View.read_writes_cons_rows_of_mem v f inb u [] y (loc y) ho ?_ rfl
    show _ = p.val * 1024 + (y (0 : Fin 2)).val % 1024
    omega
  · rw [if_neg h]
    have hv : (y (0 : Fin 2)).val / 1024 ≠ p.val := fun hh => h (Fin.ext hh)
    exact View.read_writes_cons_rows_of_not_mem v f inb u [] y (W := 1024) ho rfl (by omega)

end View

end Cert.Halves
-- ==== Proof.RunI.lean ====
module

public import proofs.«01_k».proof.Proof.Gen.KernelIdeal.Frame
public import proofs.«01_k».proof.Proof.Gen.KernelIdeal.Skeleton
public import proofs.«01_k».proof.Proof.Blocks

@[expose] public section

set_option maxRecDepth 16384

noncomputable section

/-! The kernel's body run once per kind of grid point: the first two points prepare the three per-vertex products, the
next two read the row sums, the next two compute the first product with the adjacency matrix, the last two the second
product and the output block. -/

namespace Cert.KernelIdeal.Hand

open Cert.KernelIdeal Cert.KernelIdeal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The user algebra: the pipeline library's beside the counters of the kernel's own transfer. -/
local notation "𝕄" => MT nD τ sig Unit (Elt F) ℕ (Pipeline.UD sig nD τ) ℕ

/-- Memref `M`'s buffer on core `c`, and that buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
/-- A staging memref's elements held at contents `f`. -/
abbrev ptS (c : Dev nD) {sp : Space} {S : Shape} {e : EltTy} (M : Memref sig .tc sp S e) (f : Bf (F := F) c M) : sProp 𝕄 :=
  M.view.loc (c : Thread nD τ) ↦[M.view.set]{fullShare} f

abbrev adjHbm : Memref sig .tc .hbm S2048x2048 .f32 := Memref.whole main_arg1
abbrev adjM : Memref sig .tc .vmem S2048x2048 .f32 := Memref.whole cc0_scratch0
abbrev disM : Memref sig .tc .vmem S2048x1 .f32 := Memref.whole cc0_scratch1
abbrev ysumM : Memref sig .tc .vmem S2048x24 .f32 := Memref.whole cc0_scratch2
abbrev ybM : Memref sig .tc .vmem S2048x24 .f32 := Memref.whole cc0_scratch3
abbrev y2sM : Memref sig .tc .vmem S2048x24 .f32 := Memref.whole cc0_scratch4
abbrev uM : Memref sig .tc .vmem S2048x24 .f32 := Memref.whole cc0_scratch5

/-- The condition of the transfer's start, of its wait, and of the second stage's right-hand side. -/
def condStart (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32
def condWait (i : grid0.Coords) : BitVec 1 :=
  Scalar.cmpi .ne (Scalar.extui (Scalar.andi (Scalar.cmpi .eq (BitVec.ofNat 32 (i 0).val) 1#32) (Scalar.cmpi .eq (BitVec.ofNat 32 (i 1).val) 0#32)) : BitVec 32) 0#32
def condRhs (i : grid0.Coords) : BitVec 1 :=
  Scalar.cmpi .ne (Scalar.extui (Scalar.andi (Scalar.cmpi .eq (BitVec.ofNat 32 (i 0).val) 3#32) (Scalar.cmpi .eq (BitVec.ofNat 32 (i 1).val) 0#32)) : BitVec 32) 0#32

/-- The body at grid coordinates `i` on the kernel's own buffers and any staging memrefs. -/
abbrev body (i : grid0.Coords) (a3 : Memref sig .tc .vmem S8x1024x128 .f32) (h3 : a3.IsWhole) (a4 : Memref sig .tc .vmem S8x128 .f32) (h4 : a4.IsWhole)
    (a5 : Memref sig .tc .vmem S128x256 .f32) (h5 : a5.IsWhole) (a6 : Memref sig .tc .vmem S1x256 .f32) (h6 : a6.IsWhole)
    (a7 : Memref sig .tc .vmem S3x8x128x24 .f32) (h7 : a7.IsWhole) (a8 : Memref sig .tc .vmem S1x24 .f32) (h8 : a8.IsWhole)
    (a9 : Memref sig .tc .vmem S1024x24 .f32) (h9 : a9.IsWhole) : Prog (TpuEff nD τ sig (Elt F) Λ₀ .tc) PUnit :=
  cc0__body i adjHbm (Memref.isWhole_whole _) a3 h3 a4 h4 a5 h5 a6 h6 a7 h7 a8 h8 a9 h9 adjM (Memref.isWhole_whole _) disM (Memref.isWhole_whole _)
    ysumM (Memref.isWhole_whole _) ybM (Memref.isWhole_whole _) y2sM (Memref.isWhole_whole _) uM (Memref.isWhole_whole _) cc0_scratch6

variable (c : Dev nD) (i : grid0.Coords) (a3 : Memref sig .tc .vmem S8x1024x128 .f32) (h3 : a3.IsWhole) (a4 : Memref sig .tc .vmem S8x128 .f32) (h4 : a4.IsWhole)
    (a5 : Memref sig .tc .vmem S128x256 .f32) (h5 : a5.IsWhole) (a6 : Memref sig .tc .vmem S1x256 .f32) (h6 : a6.IsWhole)
    (a7 : Memref sig .tc .vmem S3x8x128x24 .f32) (h7 : a7.IsWhole) (a8 : Memref sig .tc .vmem S1x24 .f32) (h8 : a8.IsWhole)
    (a9 : Memref sig .tc .vmem S1024x24 .f32) (h9 : a9.IsWhole)

/-- Plane `(k, b)` of the combined weights, as the body loads it. -/
abbrev wAt00 (x7 : Vec F S3x8x128x24 .f32) : Vec F S1x1x128x24 .f32 :=
  View.ld x7 (Rect.unit (s := S3x8x128x24) ![0, 0, 0, 0] S1x1x128x24.size inb_S3x8x128x24_S1x1x128x24_0_0_0_0)
abbrev wAt01 (x7 : Vec F S3x8x128x24 .f32) : Vec F S1x1x128x24 .f32 :=
  View.ld x7 (Rect.unit (s := S3x8x128x24) ![0, 1, 0, 0] S1x1x128x24.size inb_S3x8x128x24_S1x1x128x24_0_1_0_0)
abbrev wAt02 (x7 : Vec F S3x8x128x24 .f32) : Vec F S1x1x128x24 .f32 :=
  View.ld x7 (Rect.unit (s := S3x8x128x24) ![0, 2, 0, 0] S1x1x128x24.size inb_S3x8x128x24_S1x1x128x24_0_2_0_0)
abbrev wAt03 (x7 : Vec F S3x8x128x24 .f32) : Vec F S1x1x128x24 .f32 :=
  View.ld x7 (Rect.unit (s := S3x8x128x24) ![0, 3, 0, 0] S1x1x128x24.size inb_S3x8x128x24_S1x1x128x24_0_3_0_0)
abbrev wAt04 (x7 : Vec F S3x8x128x24 .f32) : Vec F S1x1x128x24 .f32 :=
  View.ld x7 (Rect.unit (s := S3x8x128x24) ![0, 4, 0, 0] S1x1x128x24.size inb_S3x8x128x24_S1x1x128x24_0_4_0_0)
abbrev wAt05 (x7 : Vec F S3x8x128x24 .f32) : Vec F S1x1x128x24 .f32 :=
  View.ld x7 (Rect.unit (s := S3x8x128x24) ![0, 5, 0, 0] S1x1x128x24.size inb_S3x8x128x24_S1x1x128x24_0_5_0_0)
abbrev wAt06 (x7 : Vec F S3x8x128x24 .f32) : Vec F S1x1x128x24 .f32 :=
  View.ld x7 (Rect.unit (s := S3x8x128x24) ![0, 6, 0, 0] S1x1x128x24.size inb_S3x8x128x24_S1x1x128x24_0_6_0_0)
abbrev wAt07 (x7 : Vec F S3x8x128x24 .f32) : Vec F S1x1x128x24 .f32 :=
  View.ld x7 (Rect.unit (s := S3x8x128x24) ![0, 7, 0, 0] S1x1x128x24.size inb_S3x8x128x24_S1x1x128x24_0_7_0_0)
abbrev wAt10 (x7 : Vec F S3x8x128x24 .f32) : Vec F S1x1x128x24 .f32 :=
  View.ld x7 (Rect.unit (s := S3x8x128x24) ![1, 0, 0, 0] S1x1x128x24.size inb_S3x8x128x24_S1x1x128x24_1_0_0_0)
abbrev wAt11 (x7 : Vec F S3x8x128x24 .f32) : Vec F S1x1x128x24 .f32 :=
  View.ld x7 (Rect.unit (s := S3x8x128x24) ![1, 1, 0, 0] S1x1x128x24.size inb_S3x8x128x24_S1x1x128x24_1_1_0_0)
abbrev wAt12 (x7 : Vec F S3x8x128x24 .f32) : Vec F S1x1x128x24 .f32 :=
  View.ld x7 (Rect.unit (s := S3x8x128x24) ![1, 2, 0, 0] S1x1x128x24.size inb_S3x8x128x24_S1x1x128x24_1_2_0_0)
abbrev wAt13 (x7 : Vec F S3x8x128x24 .f32) : Vec F S1x1x128x24 .f32 :=
  View.ld x7 (Rect.unit (s := S3x8x128x24) ![1, 3, 0, 0] S1x1x128x24.size inb_S3x8x128x24_S1x1x128x24_1_3_0_0)
abbrev wAt14 (x7 : Vec F S3x8x128x24 .f32) : Vec F S1x1x128x24 .f32 :=
  View.ld x7 (Rect.unit (s := S3x8x128x24) ![1, 4, 0, 0] S1x1x128x24.size inb_S3x8x128x24_S1x1x128x24_1_4_0_0)
abbrev wAt15 (x7 : Vec F S3x8x128x24 .f32) : Vec F S1x1x128x24 .f32 :=
  View.ld x7 (Rect.unit (s := S3x8x128x24) ![1, 5, 0, 0] S1x1x128x24.size inb_S3x8x128x24_S1x1x128x24_1_5_0_0)
abbrev wAt16 (x7 : Vec F S3x8x128x24 .f32) : Vec F S1x1x128x24 .f32 :=
  View.ld x7 (Rect.unit (s := S3x8x128x24) ![1, 6, 0, 0] S1x1x128x24.size inb_S3x8x128x24_S1x1x128x24_1_6_0_0)
abbrev wAt17 (x7 : Vec F S3x8x128x24 .f32) : Vec F S1x1x128x24 .f32 :=
  View.ld x7 (Rect.unit (s := S3x8x128x24) ![1, 7, 0, 0] S1x1x128x24.size inb_S3x8x128x24_S1x1x128x24_1_7_0_0)
abbrev wAt20 (x7 : Vec F S3x8x128x24 .f32) : Vec F S1x1x128x24 .f32 :=
  View.ld x7 (Rect.unit (s := S3x8x128x24) ![2, 0, 0, 0] S1x1x128x24.size inb_S3x8x128x24_S1x1x128x24_2_0_0_0)
abbrev wAt21 (x7 : Vec F S3x8x128x24 .f32) : Vec F S1x1x128x24 .f32 :=
  View.ld x7 (Rect.unit (s := S3x8x128x24) ![2, 1, 0, 0] S1x1x128x24.size inb_S3x8x128x24_S1x1x128x24_2_1_0_0)
abbrev wAt22 (x7 : Vec F S3x8x128x24 .f32) : Vec F S1x1x128x24 .f32 :=
  View.ld x7 (Rect.unit (s := S3x8x128x24) ![2, 2, 0, 0] S1x1x128x24.size inb_S3x8x128x24_S1x1x128x24_2_2_0_0)
abbrev wAt23 (x7 : Vec F S3x8x128x24 .f32) : Vec F S1x1x128x24 .f32 :=
  View.ld x7 (Rect.unit (s := S3x8x128x24) ![2, 3, 0, 0] S1x1x128x24.size inb_S3x8x128x24_S1x1x128x24_2_3_0_0)
abbrev wAt24 (x7 : Vec F S3x8x128x24 .f32) : Vec F S1x1x128x24 .f32 :=
  View.ld x7 (Rect.unit (s := S3x8x128x24) ![2, 4, 0, 0] S1x1x128x24.size inb_S3x8x128x24_S1x1x128x24_2_4_0_0)
abbrev wAt25 (x7 : Vec F S3x8x128x24 .f32) : Vec F S1x1x128x24 .f32 :=
  View.ld x7 (Rect.unit (s := S3x8x128x24) ![2, 5, 0, 0] S1x1x128x24.size inb_S3x8x128x24_S1x1x128x24_2_5_0_0)
abbrev wAt26 (x7 : Vec F S3x8x128x24 .f32) : Vec F S1x1x128x24 .f32 :=
  View.ld x7 (Rect.unit (s := S3x8x128x24) ![2, 6, 0, 0] S1x1x128x24.size inb_S3x8x128x24_S1x1x128x24_2_6_0_0)
abbrev wAt27 (x7 : Vec F S3x8x128x24 .f32) : Vec F S1x1x128x24 .f32 :=
  View.ld x7 (Rect.unit (s := S3x8x128x24) ![2, 7, 0, 0] S1x1x128x24.size inb_S3x8x128x24_S1x1x128x24_2_7_0_0)

/-- The normalised block, from the input blocks as the body loads them. -/
abbrev xmV (x3 : Vec F S8x1024x128 .f32) (x4 : Vec F S8x128 .f32) (x5 : Vec F S128x256 .f32) (x6 : Vec F S1x256 .f32) : FVec F S8x1024x128 .f32 :=
  k0_pay10 (View.ld x4 (Rect.unit (s := S8x128) ![0, 0] S8x128.size inb_S8x128_S8x128_0_0)) (View.ld x5 (Rect.unit (s := S128x256) ![0, 0] S128x256.size inb_S128x256_S128x256_0_0))
    (View.ld x6 (Rect.unit (s := S1x256) ![0, 0] S1x256.size inb_S1x256_S1x256_0_0)) (View.ld x3 (Rect.unit (s := S8x1024x128) ![0, 0, 0] S8x1024x128.size inb_S8x1024x128_S8x1024x128_0_0_0))

/-- What a preparing point stores of a normalised block `v69` and the combined weights `x7`: the sum of the three
products, the first product plus four times the third, and the third product. -/
def ysV (v69 : FVec F S8x1024x128 .f32) (x7 : Vec F S3x8x128x24 .f32) : FVec F S1024x24 .f32 :=
  k0_pay1 (k0_pay31 v69 (k0_pay25 v69 (k0_pay20 v69 (k0_pay14 v69 (Scalar.ofBits .f32 0x00000000#32) (wAt00 x7) (wAt01 x7)) (wAt02 x7) (wAt03 x7)) (wAt04 x7) (wAt05 x7))
    (k0_pay28 v69) (wAt06 x7) (wAt07 x7))
def ybV (v69 : FVec F S8x1024x128 .f32) (x7 : Vec F S3x8x128x24 .f32) : FVec F S1024x24 .f32 :=
  k0_pay2 (k0_pay32 v69 (k0_pay26 v69 (k0_pay21 v69 (k0_pay15 v69 (wAt10 x7) (wAt11 x7)) (wAt12 x7) (wAt13 x7)) (wAt14 x7) (wAt15 x7))
    (k0_pay28 v69) (wAt16 x7) (wAt17 x7))
def y2V (v69 : FVec F S8x1024x128 .f32) (x7 : Vec F S3x8x128x24 .f32) : FVec F S1024x24 .f32 :=
  k0_pay3 (k0_pay33 v69 (k0_pay27 v69 (k0_pay18 v69 (k0_pay12 v69 (wAt20 x7)) (k0_pay13 v69) (k0_pay16 (wAt21 x7)) (wAt22 x7)) (k0_pay22 v69 (wAt23 x7)) (wAt24 x7) (wAt25 x7))
    (k0_pay28 v69) (wAt26 x7) (wAt27 x7))

variable {c i a3 h3 a4 h4 a5 h5 a6 h6 a7 h7 a8 h8 a9 h9}

/-- What the transfer of the adjacency matrix into its buffer delivers. -/
abbrev deliv (c : Dev nD) (f0 : Bf (F := F) c adjM) (fh : Bf (F := F) c adjHbm) : sProp 𝕄 :=
  iprop((adjM.view.loc (c : Thread nD τ) ↦{fullShare} View.write (Elt F) adjM.view f0 (adjHbm.view.read (Elt F) fh) Finset.univ)
    ∗ (adjHbm.view.loc (c : Thread nD τ) ↦[adjHbm.view.set]{fullShare} fh))

/-- The transfer in flight. -/
abbrev flight (c : Dev nD) (D : sProp 𝕄) : sProp 𝕄 :=
  Transfers.Flight (countersEmb (U := Pipeline.UD sig nD τ)) (c : Thread nD τ) (.dma 9) () (adjM.view.amount (SemLoc.dma (sig := sig) 9)) D

/-- The delivery: the buffer at the matrix, and the matrix back. -/
theorem deliv_eq (c : Dev nD) (f0 : Bf (F := F) c adjM) (fh : Bf (F := F) c adjHbm) :
    deliv c f0 fh = iprop(pt c adjM (adjHbm.view.read (Elt F) fh) ∗ pt c adjHbm fh) := by
  unfold deliv pt
  rw [View.set_whole]
  rw [show View.write (Elt F) adjM.view f0 (adjHbm.view.read (Elt F) fh) Finset.univ = adjHbm.view.read (Elt F) fh from View.write_whole_univ _ _ _]

/-- A preparing point, which also starts the transfer of the adjacency matrix. -/
theorem run_start (hc1 : condStart i = 1#1) (hc2 : k0_cond2 i = 1#1) (hc3 : ¬ condWait i = 1#1) (hc4 : ¬ k0_cond4 i = 1#1) (hc5 : ¬ k0_cond5 i = 1#1) (hc6 : ¬ condRhs i = 1#1) (hc7 : ¬ k0_cond7 i = 1#1)
    (p : Fin 2) (ho : k0_off1 i = ![p.val * 1024, 0])
    (g3 : Bf (F := F) c a3) (g4 : Bf (F := F) c a4) (g5 : Bf (F := F) c a5) (g6 : Bf (F := F) c a6) (g7 : Bf (F := F) c a7)
    (fh : Bf (F := F) c adjHbm) (f0 : Bf (F := F) c adjM)
    (f2 : Bf (F := F) c ysumM) (f3 : Bf (F := F) c ybM) (f4 : Bf (F := F) c y2sM) (K : PUnit → sProp 𝕄) :
    iprop(ptS c a3 g3 ∗ ptS c a4 g4 ∗ ptS c a5 g5 ∗ ptS c a6 g6 ∗ ptS c a7 g7 ∗ pt c adjHbm fh ∗ pt c adjM f0 ∗ semVal ((c : Thread nD τ), SemLoc.dma 9) 0
      ∗ pt c ysumM f2 ∗ pt c ybM f3 ∗ pt c y2sM f4 ∗ (iprop(flight c (deliv c f0 fh) ∗ ptS c a3 g3 ∗ ptS c a4 g4 ∗ ptS c a5 g5 ∗ ptS c a6 g6 ∗ ptS c a7 g7
        ∗ pt c ysumM (putB p f2 (ysV (xmV (a3.view.read (Elt F) g3) (a4.view.read (Elt F) g4) (a5.view.read (Elt F) g5) (a6.view.read (Elt F) g6)) (a7.view.read (Elt F) g7)))
        ∗ pt c ybM (putB p f3 (ybV (xmV (a3.view.read (Elt F) g3) (a4.view.read (Elt F) g4) (a5.view.read (Elt F) g5) (a6.view.read (Elt F) g6)) (a7.view.read (Elt F) g7)))
        ∗ pt c y2sM (putB p f4 (y2V (xmV (a3.view.read (Elt F) g3) (a4.view.read (Elt F) g4) (a5.view.read (Elt F) g5) (a6.view.read (Elt F) g6)) (a7.view.read (Elt F) g7)))) -∗ K ⟨⟩))
    ⊢ wp frame (wpE (defs₀ (F := F)) Variants.none c none) Set.univ (body i a3 h3 a4 h4 a5 h5 a6 h6 a7 h7 a8 h8 a9 h9) K := by
  unfold condStart at hc1
  unfold condWait at hc3
  unfold condRhs at hc6
  simp only [body, cc0__body_eq_skeleton]; unfold cc0__body_skel
  simp only [k0_part1_eq_skeleton, k0_part2_eq_skeleton, k0_part3_eq_skeleton, k0_part4_eq_skeleton, k0_part5_eq_skeleton]
  iintro ⟨G3, G4, G5, G6, G7, HH, H0, Hs, H2, H3, H4, Hk⟩
  sl_exec
  sl_step
  iapply Hk
  isplitl [Hs]; · iexact Hs
  isplitl [G3]; · iexact G3
  isplitl [G4]; · iexact G4
  isplitl [G5]; · iexact G5
  isplitl [G6]; · iexact G6
  isplitl [G7]; · iexact G7
  have q2 := read_writes_putB ysumM.view f2 p ho (k0_off1_inb i hc2) (ysV (xmV (a3.view.read (Elt F) g3) (a4.view.read (Elt F) g4) (a5.view.read (Elt F) g5) (a6.view.read (Elt F) g6)) (a7.view.read (Elt F) g7))
  have q3 := read_writes_putB ybM.view f3 p ho (k0_off1_inb i hc2) (ybV (xmV (a3.view.read (Elt F) g3) (a4.view.read (Elt F) g4) (a5.view.read (Elt F) g5) (a6.view.read (Elt F) g6)) (a7.view.read (Elt F) g7))
  have q4 := read_writes_putB y2sM.view f4 p ho (k0_off1_inb i hc2) (y2V (xmV (a3.view.read (Elt F) g3) (a4.view.read (Elt F) g4) (a5.view.read (Elt F) g5) (a6.view.read (Elt F) g6)) (a7.view.read (Elt F) g7))
  simp only [View.read_whole] at q2 q3 q4
  rw [← q2, ← q3, ← q4]
  isplitl [H2]; · iexact H2
  isplitl [H3]; · iexact H3
  iexact H4

/-- A preparing point. -/
theorem run_prep (hc1 : ¬ condStart i = 1#1) (hc2 : k0_cond2 i = 1#1) (hc3 : ¬ condWait i = 1#1) (hc4 : ¬ k0_cond4 i = 1#1) (hc5 : ¬ k0_cond5 i = 1#1) (hc6 : ¬ condRhs i = 1#1) (hc7 : ¬ k0_cond7 i = 1#1)
    (p : Fin 2) (ho : k0_off1 i = ![p.val * 1024, 0])
    (g3 : Bf (F := F) c a3) (g4 : Bf (F := F) c a4) (g5 : Bf (F := F) c a5) (g6 : Bf (F := F) c a6) (g7 : Bf (F := F) c a7)
    (f2 : Bf (F := F) c ysumM) (f3 : Bf (F := F) c ybM) (f4 : Bf (F := F) c y2sM) (K : PUnit → sProp 𝕄) :
    iprop(ptS c a3 g3 ∗ ptS c a4 g4 ∗ ptS c a5 g5 ∗ ptS c a6 g6 ∗ ptS c a7 g7
      ∗ pt c ysumM f2 ∗ pt c ybM f3 ∗ pt c y2sM f4 ∗ (iprop(ptS c a3 g3 ∗ ptS c a4 g4 ∗ ptS c a5 g5 ∗ ptS c a6 g6 ∗ ptS c a7 g7
        ∗ pt c ysumM (putB p f2 (ysV (xmV (a3.view.read (Elt F) g3) (a4.view.read (Elt F) g4) (a5.view.read (Elt F) g5) (a6.view.read (Elt F) g6)) (a7.view.read (Elt F) g7)))
        ∗ pt c ybM (putB p f3 (ybV (xmV (a3.view.read (Elt F) g3) (a4.view.read (Elt F) g4) (a5.view.read (Elt F) g5) (a6.view.read (Elt F) g6)) (a7.view.read (Elt F) g7)))
        ∗ pt c y2sM (putB p f4 (y2V (xmV (a3.view.read (Elt F) g3) (a4.view.read (Elt F) g4) (a5.view.read (Elt F) g5) (a6.view.read (Elt F) g6)) (a7.view.read (Elt F) g7)))) -∗ K ⟨⟩))
    ⊢ wp frame (wpE (defs₀ (F := F)) Variants.none c none) Set.univ (body i a3 h3 a4 h4 a5 h5 a6 h6 a7 h7 a8 h8 a9 h9) K := by
  unfold condStart at hc1
  unfold condWait at hc3
  unfold condRhs at hc6
  simp only [body, cc0__body_eq_skeleton]; unfold cc0__body_skel
  simp only [k0_part1_eq_skeleton, k0_part2_eq_skeleton, k0_part3_eq_skeleton, k0_part4_eq_skeleton, k0_part5_eq_skeleton]
  iintro ⟨G3, G4, G5, G6, G7, H2, H3, H4, Hk⟩
  sl_exec
  sl_step
  iapply Hk
  isplitl [G3]; · iexact G3
  isplitl [G4]; · iexact G4
  isplitl [G5]; · iexact G5
  isplitl [G6]; · iexact G6
  isplitl [G7]; · iexact G7
  have q2 := read_writes_putB ysumM.view f2 p ho (k0_off1_inb i hc2) (ysV (xmV (a3.view.read (Elt F) g3) (a4.view.read (Elt F) g4) (a5.view.read (Elt F) g5) (a6.view.read (Elt F) g6)) (a7.view.read (Elt F) g7))
  have q3 := read_writes_putB ybM.view f3 p ho (k0_off1_inb i hc2) (ybV (xmV (a3.view.read (Elt F) g3) (a4.view.read (Elt F) g4) (a5.view.read (Elt F) g5) (a6.view.read (Elt F) g6)) (a7.view.read (Elt F) g7))
  have q4 := read_writes_putB y2sM.view f4 p ho (k0_off1_inb i hc2) (y2V (xmV (a3.view.read (Elt F) g3) (a4.view.read (Elt F) g4) (a5.view.read (Elt F) g5) (a6.view.read (Elt F) g6)) (a7.view.read (Elt F) g7))
  simp only [View.read_whole] at q2 q3 q4
  rw [← q2, ← q3, ← q4]
  isplitl [H2]; · iexact H2
  isplitl [H3]; · iexact H3
  iexact H4

/-- A row-sum point: the inverse square roots of the row sums, and the third product scaled by them. -/
theorem run_rows (hc1 : ¬ condStart i = 1#1) (hc2 : ¬ k0_cond2 i = 1#1) (hc3 : ¬ condWait i = 1#1) (hc4 : k0_cond4 i = 1#1) (hc5 : ¬ k0_cond5 i = 1#1) (hc6 : ¬ condRhs i = 1#1) (hc7 : ¬ k0_cond7 i = 1#1)
    (p : Fin 2) (ho2 : k0_off2 i = ![p.val * 1024, 0]) (ho3 : k0_off3 i = ![p.val * 1024, 0]) (ho4 : k0_off4 i = ![p.val * 1024, 0])
    (f0 : Bf (F := F) c adjM) (f1 : Bf (F := F) c disM) (f4 : Bf (F := F) c y2sM) (K : PUnit → sProp 𝕄) :
    iprop(pt c adjM f0 ∗ pt c disM f1 ∗ pt c y2sM f4 ∗ (iprop(pt c adjM f0
        ∗ pt c disM (putB p f1 (k0_pay5 (blk p f0))) ∗ pt c y2sM (putB p f4 (k0_pay6 (blk p f0) (blk p f4)))) -∗ K ⟨⟩))
    ⊢ wp frame (wpE (defs₀ (F := F)) Variants.none c none) Set.univ (body i a3 h3 a4 h4 a5 h5 a6 h6 a7 h7 a8 h8 a9 h9) K := by
  unfold condStart at hc1
  unfold condWait at hc3
  unfold condRhs at hc6
  simp only [body, cc0__body_eq_skeleton]; unfold cc0__body_skel
  iintro ⟨HF_dst, H1, H4, Hk⟩
  sl_exec
  sl_step
  iapply Hk
  isplitl [HF_dst]; · iexact HF_dst
  have r0 := readAt_blk adjM.view f0 p ho2 (k0_off2_inb i hc4)
  have r4 := readAt_blk y2sM.view f4 p ho4 (k0_off4_inb i hc4)
  have q1 := read_writes_putB disM.view f1 p ho3 (k0_off3_inb i hc4) (k0_pay5 (blk p f0))
  have q4 := read_writes_putB y2sM.view f4 p ho4 (k0_off4_inb i hc4) (k0_pay6 (blk p f0) (blk p f4))
  simp only [View.read_whole] at r0 r4 q1 q4
  rw [← q1, ← q4, ← r0, ← r4]
  isplitl [H1]; · iexact H1
  iexact H4

/-- A row-sum point, which first waits for the transfer: the inverse square roots of the row sums, and the third product scaled by them. -/
theorem run_wait (hc1 : ¬ condStart i = 1#1) (hc2 : ¬ k0_cond2 i = 1#1) (hc3 : condWait i = 1#1) (hc4 : k0_cond4 i = 1#1) (hc5 : ¬ k0_cond5 i = 1#1) (hc6 : ¬ condRhs i = 1#1) (hc7 : ¬ k0_cond7 i = 1#1)
    (p : Fin 2) (ho2 : k0_off2 i = ![p.val * 1024, 0]) (ho3 : k0_off3 i = ![p.val * 1024, 0]) (ho4 : k0_off4 i = ![p.val * 1024, 0])
    (fh : Bf (F := F) c adjHbm) (W : Waits sig Unit) (f0 : Bf (F := F) c adjM) (f1 : Bf (F := F) c disM) (f4 : Bf (F := F) c y2sM) (K : PUnit → sProp 𝕄) :
    iprop(flight c iprop(pt c adjM f0 ∗ pt c adjHbm fh) ∗ owes (c : Thread nD τ) 0 W ∗ pt c disM f1 ∗ pt c y2sM f4 ∗ (iprop(pt c adjHbm fh ∗ semVal ((c : Thread nD τ), SemLoc.dma 9) 0 ∗ owes (c : Thread nD τ) 0 (insert (SemLoc.dma 9, ()) W) ∗ pt c adjM f0
        ∗ pt c disM (putB p f1 (k0_pay5 (blk p f0))) ∗ pt c y2sM (putB p f4 (k0_pay6 (blk p f0) (blk p f4)))) -∗ K ⟨⟩))
    ⊢ wp frame (wpE (defs₀ (F := F)) Variants.none c none) Set.univ (body i a3 h3 a4 h4 a5 h5 a6 h6 a7 h7 a8 h8 a9 h9) K := by
  unfold condStart at hc1
  unfold condWait at hc3
  unfold condRhs at hc6
  simp only [body, cc0__body_eq_skeleton]; unfold cc0__body_skel
  iintro ⟨HF, HO, H1, H4, Hk⟩
  sl_exec
  sl_step
  iapply Hk
  isplitl [HF_src]; · iexact HF_src
  isplitl [HF]; · iexact HF
  isplitl [HO]; · iexact HO
  isplitl [HF_dst]; · iexact HF_dst
  have r0 := readAt_blk adjM.view f0 p ho2 (k0_off2_inb i hc4)
  have r4 := readAt_blk y2sM.view f4 p ho4 (k0_off4_inb i hc4)
  have q1 := read_writes_putB disM.view f1 p ho3 (k0_off3_inb i hc4) (k0_pay5 (blk p f0))
  have q4 := read_writes_putB y2sM.view f4 p ho4 (k0_off4_inb i hc4) (k0_pay6 (blk p f0) (blk p f4))
  simp only [View.read_whole] at r0 r4 q1 q4
  rw [← q1, ← q4, ← r0, ← r4]
  isplitl [H1]; · iexact H1
  iexact H4

/-- A point of the first product: half of the adjacency matrix times the scaled third product. -/
theorem run_u (hc1 : ¬ condStart i = 1#1) (hc2 : ¬ k0_cond2 i = 1#1) (hc3 : ¬ condWait i = 1#1) (hc4 : ¬ k0_cond4 i = 1#1) (hc5 : k0_cond5 i = 1#1) (hc6 : ¬ condRhs i = 1#1) (hc7 : ¬ k0_cond7 i = 1#1)
    (p : Fin 2) (ho5 : k0_off5 i = ![p.val * 1024, 0]) (ho6 : k0_off6 i = ![p.val * 1024, 0])
    (f0 : Bf (F := F) c adjM) (f4 : Bf (F := F) c y2sM) (f5 : Bf (F := F) c uM) (K : PUnit → sProp 𝕄) :
    iprop(pt c adjM f0 ∗ pt c y2sM f4 ∗ pt c uM f5 ∗ (iprop(pt c adjM f0 ∗ pt c y2sM f4 ∗ pt c uM (putB p f5 (k0_pay7 (blk p f0) f4))) -∗ K ⟨⟩))
    ⊢ wp frame (wpE (defs₀ (F := F)) Variants.none c none) Set.univ (body i a3 h3 a4 h4 a5 h5 a6 h6 a7 h7 a8 h8 a9 h9) K := by
  unfold condStart at hc1
  unfold condWait at hc3
  unfold condRhs at hc6
  simp only [body, cc0__body_eq_skeleton]; unfold cc0__body_skel
  iintro ⟨H0, H4, H5, Hk⟩
  sl_exec
  sl_step
  iapply Hk
  have r0 := readAt_blk adjM.view f0 p ho5 (k0_off5_inb i hc5)
  have r4 := View.readAt_full y2sM.view f4 (off := ![0, 0]) inb_S2048x24_S2048x24_0_0
  have q5 := read_writes_putB uM.view f5 p ho6 (k0_off6_inb i hc5) (k0_pay7 (blk p f0) f4)
  simp only [View.read_whole] at r0 r4 q5
  isplitl [H0]; · iexact H0
  isplitl [H4]; · iexact H4
  rw [← q5, ← r0]
  rw [show k0_pay7 (F := F) _ f4 = k0_pay7 (F := F) _ _ from congrArg _ r4.symm]
  iexact H5

set_option maxHeartbeats 800000 in
/-- A point of the second product, which first computes its right-hand side: half of the result. -/
theorem run_rhs (hc1 : ¬ condStart i = 1#1) (hc2 : ¬ k0_cond2 i = 1#1) (hc3 : ¬ condWait i = 1#1) (hc4 : ¬ k0_cond4 i = 1#1) (hc5 : ¬ k0_cond5 i = 1#1) (hc6 : condRhs i = 1#1) (hc7 : k0_cond7 i = 1#1)
    (p : Fin 2) (ho7 : k0_off7 i = ![p.val * 1024, 0]) (ho8 : k0_off8 i = ![p.val * 1024, 0]) (ho9 : k0_off9 i = ![p.val * 1024, 0])
    (f0 : Bf (F := F) c adjM) (f1 : Bf (F := F) c disM) (f2 : Bf (F := F) c ysumM) (f3 : Bf (F := F) c ybM) (f5 : Bf (F := F) c uM) (g8 : Bf (F := F) c a8) (g9 : Bf (F := F) c a9) (K : PUnit → sProp 𝕄) :
    iprop(pt c adjM f0 ∗ pt c disM f1 ∗ pt c ysumM f2 ∗ pt c ybM f3 ∗ pt c uM f5 ∗ ptS c a8 g8 ∗ ptS c a9 g9
      ∗ (iprop(pt c adjM f0 ∗ pt c disM f1 ∗ pt c ysumM f2 ∗ pt c ybM f3 ∗ pt c uM (k0_pay8 f1 f3 f5) ∗ ptS c a8 g8
        ∗ owns (c : Thread nD τ) a9 fullShare (k0_pay9 (blk p f0) (k0_pay8 f1 f3 f5) (blk p f2) (blk p f1) (a8.view.read (Elt F) g8))) -∗ K ⟨⟩))
    ⊢ wp frame (wpE (defs₀ (F := F)) Variants.none c none) Set.univ (body i a3 h3 a4 h4 a5 h5 a6 h6 a7 h7 a8 h8 a9 h9) K := by
  unfold condStart at hc1
  unfold condWait at hc3
  unfold condRhs at hc6
  simp only [body, cc0__body_eq_skeleton]; unfold cc0__body_skel
  iintro ⟨H0, H1, H2, H3, H5, G8, G9, Hk⟩
  sl_exec
  sl_step
  iapply Hk
  isplitl [H0]; · iexact H0
  isplitl [H1]; · iexact H1
  isplitl [H2]; · iexact H2
  isplitl [H3]; · iexact H3
  have r0 := readAt_blk adjM.view f0 p ho7 (k0_off7_inb i hc7)
  have r2 := readAt_blk ysumM.view f2 p ho8 (k0_off8_inb i hc7)
  have r1 := readAt_blk disM.view f1 p ho9 (k0_off9_inb i hc7)
  have r8 := View.readAt_full a8.view g8 (off := ![0, 0]) inb_S1x24_S1x24_0_0
  have e1 := View.readAt_full disM.view f1 (off := ![0, 0]) inb_S2048x1_S2048x1_0_0
  have e3 := View.readAt_full ybM.view f3 (off := ![0, 0]) inb_S2048x24_S2048x24_0_0
  have e5 := View.readAt_full uM.view f5 (off := ![0, 0]) inb_S2048x24_S2048x24_0_0
  simp only [View.read_whole] at r0 r2 r1 e1 e3 e5
  have ep : k0_pay8 (F := F) (View.readAt (Elt F) disM.view (Rect.unit (s := S2048x1) ![0, 0] S2048x1.size inb_S2048x1_S2048x1_0_0).toLoadRect f1)
      (View.readAt (Elt F) ybM.view (Rect.unit (s := S2048x24) ![0, 0] S2048x24.size inb_S2048x24_S2048x24_0_0).toLoadRect f3)
      (View.readAt (Elt F) uM.view (Rect.unit (s := S2048x24) ![0, 0] S2048x24.size inb_S2048x24_S2048x24_0_0).toLoadRect f5) = k0_pay8 f1 f3 f5 :=
    (congrArg (fun x => k0_pay8 (F := F) x _ _) e1).trans ((congrArg (fun x => k0_pay8 (F := F) _ x _) e3).trans (congrArg (fun x => k0_pay8 (F := F) _ _ x) e5))
  have w5 := View.read_writes_full uM.view f5 (off := ![0, 0]) inb_S2048x24_S2048x24_0_0 (k0_pay8 (F := F) (View.readAt (Elt F) disM.view (Rect.unit (s := S2048x1) ![0, 0] S2048x1.size inb_S2048x1_S2048x1_0_0).toLoadRect f1)
      (View.readAt (Elt F) ybM.view (Rect.unit (s := S2048x24) ![0, 0] S2048x24.size inb_S2048x24_S2048x24_0_0).toLoadRect f3)
      (View.readAt (Elt F) uM.view (Rect.unit (s := S2048x24) ![0, 0] S2048x24.size inb_S2048x24_S2048x24_0_0).toLoadRect f5)) []
  rw [ep] at w5
  simp only [View.read_whole] at w5
  have q5 : uM.view.writes (Elt F) f5 (run_rhs.sl.H5_1 f1 f3 f5) = k0_pay8 f1 f3 f5 := by
    unfold run_rhs.sl.H5_1
    rw [ep]
    exact w5
  have qv : run_rhs.sl.v30 f1 f3 f5 = k0_pay8 f1 f3 f5 := by
    unfold run_rhs.sl.v30 run_rhs.sl.H5_1
    rw [ep]
    exact (View.readCov_full uM.view (off := ![0, 0]) (off' := ![0, 0]) inb_S2048x24_S2048x24_0_0 inb_S2048x24_S2048x24_0_0 _ [])
  rw [q5, qv]
  isplitl [H5]; · iexact H5
  isplitl [G8]; · iexact G8
  unfold owns
  iexists _
  isplitr
  swap
  · iexact G9
  · ipureintro
    refine (View.read_writes_full a9.view g9 (off := ![0, 0]) inb_S1024x24_S1024x24_0_0 _ []).trans ?_
    rw [r0, r1, r2, r8]

/-- A point of the second product: half of the result. -/
theorem run_out (hc1 : ¬ condStart i = 1#1) (hc2 : ¬ k0_cond2 i = 1#1) (hc3 : ¬ condWait i = 1#1) (hc4 : ¬ k0_cond4 i = 1#1) (hc5 : ¬ k0_cond5 i = 1#1) (hc6 : ¬ condRhs i = 1#1) (hc7 : k0_cond7 i = 1#1)
    (p : Fin 2) (ho7 : k0_off7 i = ![p.val * 1024, 0]) (ho8 : k0_off8 i = ![p.val * 1024, 0]) (ho9 : k0_off9 i = ![p.val * 1024, 0])
    (f0 : Bf (F := F) c adjM) (f1 : Bf (F := F) c disM) (f2 : Bf (F := F) c ysumM) (f5 : Bf (F := F) c uM) (g8 : Bf (F := F) c a8) (g9 : Bf (F := F) c a9) (K : PUnit → sProp 𝕄) :
    iprop(pt c adjM f0 ∗ pt c disM f1 ∗ pt c ysumM f2 ∗ pt c uM f5 ∗ ptS c a8 g8 ∗ ptS c a9 g9
      ∗ (iprop(pt c adjM f0 ∗ pt c disM f1 ∗ pt c ysumM f2 ∗ pt c uM f5 ∗ ptS c a8 g8
        ∗ owns (c : Thread nD τ) a9 fullShare (k0_pay9 (blk p f0) f5 (blk p f2) (blk p f1) (a8.view.read (Elt F) g8))) -∗ K ⟨⟩))
    ⊢ wp frame (wpE (defs₀ (F := F)) Variants.none c none) Set.univ (body i a3 h3 a4 h4 a5 h5 a6 h6 a7 h7 a8 h8 a9 h9) K := by
  unfold condStart at hc1
  unfold condWait at hc3
  unfold condRhs at hc6
  simp only [body, cc0__body_eq_skeleton]; unfold cc0__body_skel
  iintro ⟨H0, H1, H2, H5, G8, G9, Hk⟩
  sl_exec
  sl_step
  iapply Hk
  isplitl [H0]; · iexact H0
  isplitl [H1]; · iexact H1
  isplitl [H2]; · iexact H2
  have r0 := readAt_blk adjM.view f0 p ho7 (k0_off7_inb i hc7)
  have r2 := readAt_blk ysumM.view f2 p ho8 (k0_off8_inb i hc7)
  have r1 := readAt_blk disM.view f1 p ho9 (k0_off9_inb i hc7)
  have r8 := View.readAt_full a8.view g8 (off := ![0, 0]) inb_S1x24_S1x24_0_0
  have e5 := View.readAt_full uM.view f5 (off := ![0, 0]) inb_S2048x24_S2048x24_0_0
  simp only [View.read_whole] at r0 r2 r1 e5
  isplitl [H5]; · iexact H5
  isplitl [G8]; · iexact G8
  unfold owns
  iexists _
  isplitr
  swap
  · iexact G9
  · ipureintro
    refine (View.read_writes_full a9.view g9 (off := ![0, 0]) inb_S1024x24_S1024x24_0_0 _ []).trans ?_
    rw [r0, r1, r2, r8]
    exact congrArg (fun x => k0_pay9 (F := F) _ x _ _ _) e5

end Cert.KernelIdeal.Hand
end
-- ==== Proof.BodyI.lean ====
module

public import proofs.«01_k».proof.Proof.Gen.KernelIdeal.Frame
public import proofs.«01_k».proof.Proof.Gen.KernelIdeal.Skeleton
public import proofs.«01_k».proof.Proof.RunI

@[expose] public section

set_option maxRecDepth 16384

noncomputable section

/-! What the kernel's scratch buffers hold at each grid point, the body's obligation there, and the frame. -/

namespace Cert.KernelIdeal.Hand

open Cert.KernelIdeal Cert.KernelIdeal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The user algebra: the pipeline library's beside the counters of the kernel's own transfer. -/
local notation "𝕄" => MT nD τ sig Unit (Elt F) ℕ (Pipeline.UD sig nD τ) ℕ

variable (m : (ℓ : Loc nD τ sig) → Buf (Elt F) ℓ) (ρ : Dev nD → PrngReg)

/-! ## The values -/

/-- The adjacency matrix. -/
def ADJ (c : Dev nD) : Vec F S2048x2048 .f32 := V m c main_arg1
/-- The input windows' blocks at a point. -/
def b0 (c : Dev nD) (t : Fin cfg0.N) : Vec F S8x1024x128 .f32 := iblk m c 0 t
def b1 (c : Dev nD) (t : Fin cfg0.N) : Vec F S8x128 .f32 := iblk m c 1 t
def b2 (c : Dev nD) (t : Fin cfg0.N) : Vec F S128x256 .f32 := iblk m c 2 t
def b3 (c : Dev nD) (t : Fin cfg0.N) : Vec F S1x256 .f32 := iblk m c 3 t
def b4 (c : Dev nD) (t : Fin cfg0.N) : Vec F S3x8x128x24 .f32 := iblk m c 4 t
def b5 (c : Dev nD) (t : Fin cfg0.N) : Vec F S1x24 .f32 := iblk m c 5 t
/-- The normalised block at a point. -/
def xmAt (c : Dev nD) (t : Fin cfg0.N) : FVec F S8x1024x128 .f32 := xmV (b0 m c t) (b1 m c t) (b2 m c t) (b3 m c t)
/-- The preparing point of half `p`. -/
def tP (p : Fin 2) : Fin cfg0.N := if p = 0 then t0_0 else t0_1
def ysF (c : Dev nD) (p : Fin 2) : Vec F S1024x24 .f32 := ysV (xmAt m c (tP p)) (b4 m c (tP p))
def ybF (c : Dev nD) (p : Fin 2) : Vec F S1024x24 .f32 := ybV (xmAt m c (tP p)) (b4 m c (tP p))
def y2F (c : Dev nD) (p : Fin 2) : Vec F S1024x24 .f32 := y2V (xmAt m c (tP p)) (b4 m c (tP p))
theorem ysF_0 (c : Dev nD) : ysF m c 0 = ysV (xmV (b0 m c t0_0) (b1 m c t0_0) (b2 m c t0_0) (b3 m c t0_0)) (b4 m c t0_0) := rfl
theorem ybF_0 (c : Dev nD) : ybF m c 0 = ybV (xmV (b0 m c t0_0) (b1 m c t0_0) (b2 m c t0_0) (b3 m c t0_0)) (b4 m c t0_0) := rfl
theorem y2F_0 (c : Dev nD) : y2F m c 0 = y2V (xmV (b0 m c t0_0) (b1 m c t0_0) (b2 m c t0_0) (b3 m c t0_0)) (b4 m c t0_0) := rfl
theorem ysF_1 (c : Dev nD) : ysF m c 1 = ysV (xmV (b0 m c t0_1) (b1 m c t0_1) (b2 m c t0_1) (b3 m c t0_1)) (b4 m c t0_1) := rfl
theorem ybF_1 (c : Dev nD) : ybF m c 1 = ybV (xmV (b0 m c t0_1) (b1 m c t0_1) (b2 m c t0_1) (b3 m c t0_1)) (b4 m c t0_1) := rfl
theorem y2F_1 (c : Dev nD) : y2F m c 1 = y2V (xmV (b0 m c t0_1) (b1 m c t0_1) (b2 m c t0_1) (b3 m c t0_1)) (b4 m c t0_1) := rfl
/-- The three products of the prepared input, whole. -/
def YS (c : Dev nD) : Vec F S2048x24 .f32 := cat (ysF m c)
def YB (c : Dev nD) : Vec F S2048x24 .f32 := cat (ybF m c)
def Y2 (c : Dev nD) : Vec F S2048x24 .f32 := cat (y2F m c)
/-- The inverse square roots of the row sums, and the third product scaled by them. -/
def disF (c : Dev nD) (p : Fin 2) : Vec F S1024x1 .f32 := k0_pay5 (blk p (ADJ m c))
def DIS (c : Dev nD) : Vec F S2048x1 .f32 := cat (disF m c)
def y2sF (c : Dev nD) (p : Fin 2) : Vec F S1024x24 .f32 := k0_pay6 (blk p (ADJ m c)) (blk p (Y2 m c))
def Y2S (c : Dev nD) : Vec F S2048x24 .f32 := cat (y2sF m c)
/-- The first product with the adjacency matrix, and the second one's right-hand side. -/
def uF (c : Dev nD) (p : Fin 2) : Vec F S1024x24 .f32 := k0_pay7 (blk p (ADJ m c)) (Y2S m c)
def UU (c : Dev nD) : Vec F S2048x24 .f32 := cat (uF m c)
def RHS (c : Dev nD) : Vec F S2048x24 .f32 := k0_pay8 (DIS m c) (YB m c) (UU m c)
/-- The half of the result a point stores. -/
def outP (c : Dev nD) (p : Fin 2) (t : Fin cfg0.N) : Vec F S1024x24 .f32 :=
  k0_pay9 (blk p (ADJ m c)) (RHS m c) (blk p (YS m c)) (blk p (DIS m c)) (b5 m c t)
def outAt (c : Dev nD) (t : Fin cfg0.N) : Vec F S1024x24 .f32 := outP m c (if t.val % 2 = 0 then 0 else 1) t

/-! ## The invariant -/

/-- The generator register and the kernel's own semaphore at rest, the matrix's two copies. -/
abbrev rest (c : Dev nD) : sProp 𝕄 := iprop((∃ r, prngReg c r) ∗ semVal ((c : Thread nD τ), SemLoc.dma 9) 0 ∗ pt c adjHbm (ADJ m c))
abbrev fly (c : Dev nD) : sProp 𝕄 := iprop((∃ r, prngReg c r) ∗ flight c iprop(pt c adjM (ADJ m c) ∗ pt c adjHbm (ADJ m c)))
/-- A buffer at some contents. -/
abbrev some' (c : Dev nD) {sp : Space} {S : Shape} {e : EltTy} (M : Memref sig .tc sp S e) : sProp 𝕄 := iprop(∃ f : Bf (F := F) c M, pt c M f)

/-- What the region holds before point `n`. -/
def phi (c : Dev nD) : ℕ → sProp 𝕄
  | 0 => iprop(rest m c ∗ some' c adjM ∗ some' c disM ∗ some' c ysumM ∗ some' c ybM ∗ some' c y2sM ∗ some' c uM)
  | 1 => iprop(fly m c ∗ some' c disM ∗ (∃ f, pt c ysumM (putB 0 f (ysF m c 0))) ∗ (∃ f, pt c ybM (putB 0 f (ybF m c 0)))
      ∗ (∃ f, pt c y2sM (putB 0 f (y2F m c 0))) ∗ some' c uM)
  | 2 => iprop(fly m c ∗ some' c disM ∗ pt c ysumM (YS m c) ∗ pt c ybM (YB m c) ∗ pt c y2sM (Y2 m c) ∗ some' c uM)
  | 3 => iprop(rest m c ∗ pt c adjM (ADJ m c) ∗ (∃ f, pt c disM (putB 0 f (disF m c 0))) ∗ pt c ysumM (YS m c) ∗ pt c ybM (YB m c)
      ∗ pt c y2sM (putB 0 (Y2 m c) (y2sF m c 0)) ∗ some' c uM)
  | 4 => iprop(rest m c ∗ pt c adjM (ADJ m c) ∗ pt c disM (DIS m c) ∗ pt c ysumM (YS m c) ∗ pt c ybM (YB m c)
      ∗ pt c y2sM (Y2S m c) ∗ some' c uM)
  | 5 => iprop(rest m c ∗ pt c adjM (ADJ m c) ∗ pt c disM (DIS m c) ∗ pt c ysumM (YS m c) ∗ pt c ybM (YB m c)
      ∗ pt c y2sM (Y2S m c) ∗ (∃ f, pt c uM (putB 0 f (uF m c 0))))
  | 6 => iprop(rest m c ∗ pt c adjM (ADJ m c) ∗ pt c disM (DIS m c) ∗ pt c ysumM (YS m c) ∗ pt c ybM (YB m c)
      ∗ pt c y2sM (Y2S m c) ∗ pt c uM (UU m c))
  | _ => iprop(rest m c ∗ pt c adjM (ADJ m c) ∗ pt c disM (DIS m c) ∗ pt c ysumM (YS m c) ∗ pt c ybM (YB m c)
      ∗ pt c y2sM (Y2S m c) ∗ pt c uM (RHS m c))

/-- The region's proof data: each input window's block in place, the result's window at the point's half. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := phi m c t.val
  q _ := fullShare
  owed _ := 0

theorem A_eq (c : Dev nD) (w : Fin cfg0.W) : (dats m 0 c).A w = V m c (Pipeline.arrRef spec0 w) := by
  dsimp only [dats]

theorem before0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem bf0 (c : Dev nD) (t : Fin cfg0.N) (d) : (dats m 0 c).before 0 t d = iblk m c 0 t :=
  before0 m (dats m 0 c) (A_eq m c 0) (fun _ => by dsimp only [dats]) t d
theorem before1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem bf1 (c : Dev nD) (t : Fin cfg0.N) (d) : (dats m 0 c).before 1 t d = iblk m c 1 t :=
  before1 m (dats m 0 c) (A_eq m c 1) (fun _ => by dsimp only [dats]) t d
theorem before2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem bf2 (c : Dev nD) (t : Fin cfg0.N) (d) : (dats m 0 c).before 2 t d = iblk m c 2 t :=
  before2 m (dats m 0 c) (A_eq m c 2) (fun _ => by dsimp only [dats]) t d
theorem before3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem bf3 (c : Dev nD) (t : Fin cfg0.N) (d) : (dats m 0 c).before 3 t d = iblk m c 3 t :=
  before3 m (dats m 0 c) (A_eq m c 3) (fun _ => by dsimp only [dats]) t d
theorem before4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem bf4 (c : Dev nD) (t : Fin cfg0.N) (d) : (dats m 0 c).before 4 t d = iblk m c 4 t :=
  before4 m (dats m 0 c) (A_eq m c 4) (fun _ => by dsimp only [dats]) t d
theorem before5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem bf5 (c : Dev nD) (t : Fin cfg0.N) (d) : (dats m 0 c).before 5 t d = iblk m c 5 t :=
  before5 m (dats m 0 c) (A_eq m c 5) (fun _ => by dsimp only [dats]) t d

/-! ## Which sections run at each point, and from which row -/

theorem cond_0 : (condStart (grid0.coords t0_0) = 1#1) ∧ (k0_cond2 (grid0.coords t0_0) = 1#1) ∧ (¬ condWait (grid0.coords t0_0) = 1#1) ∧ (¬ k0_cond4 (grid0.coords t0_0) = 1#1) ∧ (¬ k0_cond5 (grid0.coords t0_0) = 1#1) ∧ (¬ condRhs (grid0.coords t0_0) = 1#1) ∧ (¬ k0_cond7 (grid0.coords t0_0) = 1#1) := by decide +kernel
theorem off_0 : k0_off1 (grid0.coords t0_0) = ![(0 : Fin 2).val * 1024, 0] ∧ k0_off2 (grid0.coords t0_0) = ![(0 : Fin 2).val * 1024, 0] ∧ k0_off3 (grid0.coords t0_0) = ![(0 : Fin 2).val * 1024, 0] ∧ k0_off4 (grid0.coords t0_0) = ![(0 : Fin 2).val * 1024, 0] ∧ k0_off5 (grid0.coords t0_0) = ![(0 : Fin 2).val * 1024, 0] ∧ k0_off6 (grid0.coords t0_0) = ![(0 : Fin 2).val * 1024, 0] ∧ k0_off7 (grid0.coords t0_0) = ![(0 : Fin 2).val * 1024, 0] ∧ k0_off8 (grid0.coords t0_0) = ![(0 : Fin 2).val * 1024, 0] ∧ k0_off9 (grid0.coords t0_0) = ![(0 : Fin 2).val * 1024, 0] := by decide +kernel
theorem cond_1 : (¬ condStart (grid0.coords t0_1) = 1#1) ∧ (k0_cond2 (grid0.coords t0_1) = 1#1) ∧ (¬ condWait (grid0.coords t0_1) = 1#1) ∧ (¬ k0_cond4 (grid0.coords t0_1) = 1#1) ∧ (¬ k0_cond5 (grid0.coords t0_1) = 1#1) ∧ (¬ condRhs (grid0.coords t0_1) = 1#1) ∧ (¬ k0_cond7 (grid0.coords t0_1) = 1#1) := by decide +kernel
theorem off_1 : k0_off1 (grid0.coords t0_1) = ![(1 : Fin 2).val * 1024, 0] ∧ k0_off2 (grid0.coords t0_1) = ![(1 : Fin 2).val * 1024, 0] ∧ k0_off3 (grid0.coords t0_1) = ![(1 : Fin 2).val * 1024, 0] ∧ k0_off4 (grid0.coords t0_1) = ![(1 : Fin 2).val * 1024, 0] ∧ k0_off5 (grid0.coords t0_1) = ![(1 : Fin 2).val * 1024, 0] ∧ k0_off6 (grid0.coords t0_1) = ![(1 : Fin 2).val * 1024, 0] ∧ k0_off7 (grid0.coords t0_1) = ![(1 : Fin 2).val * 1024, 0] ∧ k0_off8 (grid0.coords t0_1) = ![(1 : Fin 2).val * 1024, 0] ∧ k0_off9 (grid0.coords t0_1) = ![(1 : Fin 2).val * 1024, 0] := by decide +kernel
theorem cond_2 : (¬ condStart (grid0.coords t0_2) = 1#1) ∧ (¬ k0_cond2 (grid0.coords t0_2) = 1#1) ∧ (condWait (grid0.coords t0_2) = 1#1) ∧ (k0_cond4 (grid0.coords t0_2) = 1#1) ∧ (¬ k0_cond5 (grid0.coords t0_2) = 1#1) ∧ (¬ condRhs (grid0.coords t0_2) = 1#1) ∧ (¬ k0_cond7 (grid0.coords t0_2) = 1#1) := by decide +kernel
theorem off_2 : k0_off1 (grid0.coords t0_2) = ![(0 : Fin 2).val * 1024, 0] ∧ k0_off2 (grid0.coords t0_2) = ![(0 : Fin 2).val * 1024, 0] ∧ k0_off3 (grid0.coords t0_2) = ![(0 : Fin 2).val * 1024, 0] ∧ k0_off4 (grid0.coords t0_2) = ![(0 : Fin 2).val * 1024, 0] ∧ k0_off5 (grid0.coords t0_2) = ![(0 : Fin 2).val * 1024, 0] ∧ k0_off6 (grid0.coords t0_2) = ![(0 : Fin 2).val * 1024, 0] ∧ k0_off7 (grid0.coords t0_2) = ![(0 : Fin 2).val * 1024, 0] ∧ k0_off8 (grid0.coords t0_2) = ![(0 : Fin 2).val * 1024, 0] ∧ k0_off9 (grid0.coords t0_2) = ![(0 : Fin 2).val * 1024, 0] := by decide +kernel
theorem cond_3 : (¬ condStart (grid0.coords t0_3) = 1#1) ∧ (¬ k0_cond2 (grid0.coords t0_3) = 1#1) ∧ (¬ condWait (grid0.coords t0_3) = 1#1) ∧ (k0_cond4 (grid0.coords t0_3) = 1#1) ∧ (¬ k0_cond5 (grid0.coords t0_3) = 1#1) ∧ (¬ condRhs (grid0.coords t0_3) = 1#1) ∧ (¬ k0_cond7 (grid0.coords t0_3) = 1#1) := by decide +kernel
theorem off_3 : k0_off1 (grid0.coords t0_3) = ![(1 : Fin 2).val * 1024, 0] ∧ k0_off2 (grid0.coords t0_3) = ![(1 : Fin 2).val * 1024, 0] ∧ k0_off3 (grid0.coords t0_3) = ![(1 : Fin 2).val * 1024, 0] ∧ k0_off4 (grid0.coords t0_3) = ![(1 : Fin 2).val * 1024, 0] ∧ k0_off5 (grid0.coords t0_3) = ![(1 : Fin 2).val * 1024, 0] ∧ k0_off6 (grid0.coords t0_3) = ![(1 : Fin 2).val * 1024, 0] ∧ k0_off7 (grid0.coords t0_3) = ![(1 : Fin 2).val * 1024, 0] ∧ k0_off8 (grid0.coords t0_3) = ![(1 : Fin 2).val * 1024, 0] ∧ k0_off9 (grid0.coords t0_3) = ![(1 : Fin 2).val * 1024, 0] := by decide +kernel
theorem cond_4 : (¬ condStart (grid0.coords t0_4) = 1#1) ∧ (¬ k0_cond2 (grid0.coords t0_4) = 1#1) ∧ (¬ condWait (grid0.coords t0_4) = 1#1) ∧ (¬ k0_cond4 (grid0.coords t0_4) = 1#1) ∧ (k0_cond5 (grid0.coords t0_4) = 1#1) ∧ (¬ condRhs (grid0.coords t0_4) = 1#1) ∧ (¬ k0_cond7 (grid0.coords t0_4) = 1#1) := by decide +kernel
theorem off_4 : k0_off1 (grid0.coords t0_4) = ![(0 : Fin 2).val * 1024, 0] ∧ k0_off2 (grid0.coords t0_4) = ![(0 : Fin 2).val * 1024, 0] ∧ k0_off3 (grid0.coords t0_4) = ![(0 : Fin 2).val * 1024, 0] ∧ k0_off4 (grid0.coords t0_4) = ![(0 : Fin 2).val * 1024, 0] ∧ k0_off5 (grid0.coords t0_4) = ![(0 : Fin 2).val * 1024, 0] ∧ k0_off6 (grid0.coords t0_4) = ![(0 : Fin 2).val * 1024, 0] ∧ k0_off7 (grid0.coords t0_4) = ![(0 : Fin 2).val * 1024, 0] ∧ k0_off8 (grid0.coords t0_4) = ![(0 : Fin 2).val * 1024, 0] ∧ k0_off9 (grid0.coords t0_4) = ![(0 : Fin 2).val * 1024, 0] := by decide +kernel
theorem cond_5 : (¬ condStart (grid0.coords t0_5) = 1#1) ∧ (¬ k0_cond2 (grid0.coords t0_5) = 1#1) ∧ (¬ condWait (grid0.coords t0_5) = 1#1) ∧ (¬ k0_cond4 (grid0.coords t0_5) = 1#1) ∧ (k0_cond5 (grid0.coords t0_5) = 1#1) ∧ (¬ condRhs (grid0.coords t0_5) = 1#1) ∧ (¬ k0_cond7 (grid0.coords t0_5) = 1#1) := by decide +kernel
theorem off_5 : k0_off1 (grid0.coords t0_5) = ![(1 : Fin 2).val * 1024, 0] ∧ k0_off2 (grid0.coords t0_5) = ![(1 : Fin 2).val * 1024, 0] ∧ k0_off3 (grid0.coords t0_5) = ![(1 : Fin 2).val * 1024, 0] ∧ k0_off4 (grid0.coords t0_5) = ![(1 : Fin 2).val * 1024, 0] ∧ k0_off5 (grid0.coords t0_5) = ![(1 : Fin 2).val * 1024, 0] ∧ k0_off6 (grid0.coords t0_5) = ![(1 : Fin 2).val * 1024, 0] ∧ k0_off7 (grid0.coords t0_5) = ![(1 : Fin 2).val * 1024, 0] ∧ k0_off8 (grid0.coords t0_5) = ![(1 : Fin 2).val * 1024, 0] ∧ k0_off9 (grid0.coords t0_5) = ![(1 : Fin 2).val * 1024, 0] := by decide +kernel
theorem cond_6 : (¬ condStart (grid0.coords t0_6) = 1#1) ∧ (¬ k0_cond2 (grid0.coords t0_6) = 1#1) ∧ (¬ condWait (grid0.coords t0_6) = 1#1) ∧ (¬ k0_cond4 (grid0.coords t0_6) = 1#1) ∧ (¬ k0_cond5 (grid0.coords t0_6) = 1#1) ∧ (condRhs (grid0.coords t0_6) = 1#1) ∧ (k0_cond7 (grid0.coords t0_6) = 1#1) := by decide +kernel
theorem off_6 : k0_off1 (grid0.coords t0_6) = ![(0 : Fin 2).val * 1024, 0] ∧ k0_off2 (grid0.coords t0_6) = ![(0 : Fin 2).val * 1024, 0] ∧ k0_off3 (grid0.coords t0_6) = ![(0 : Fin 2).val * 1024, 0] ∧ k0_off4 (grid0.coords t0_6) = ![(0 : Fin 2).val * 1024, 0] ∧ k0_off5 (grid0.coords t0_6) = ![(0 : Fin 2).val * 1024, 0] ∧ k0_off6 (grid0.coords t0_6) = ![(0 : Fin 2).val * 1024, 0] ∧ k0_off7 (grid0.coords t0_6) = ![(0 : Fin 2).val * 1024, 0] ∧ k0_off8 (grid0.coords t0_6) = ![(0 : Fin 2).val * 1024, 0] ∧ k0_off9 (grid0.coords t0_6) = ![(0 : Fin 2).val * 1024, 0] := by decide +kernel
theorem cond_7 : (¬ condStart (grid0.coords t0_7) = 1#1) ∧ (¬ k0_cond2 (grid0.coords t0_7) = 1#1) ∧ (¬ condWait (grid0.coords t0_7) = 1#1) ∧ (¬ k0_cond4 (grid0.coords t0_7) = 1#1) ∧ (¬ k0_cond5 (grid0.coords t0_7) = 1#1) ∧ (¬ condRhs (grid0.coords t0_7) = 1#1) ∧ (k0_cond7 (grid0.coords t0_7) = 1#1) := by decide +kernel
theorem off_7 : k0_off1 (grid0.coords t0_7) = ![(1 : Fin 2).val * 1024, 0] ∧ k0_off2 (grid0.coords t0_7) = ![(1 : Fin 2).val * 1024, 0] ∧ k0_off3 (grid0.coords t0_7) = ![(1 : Fin 2).val * 1024, 0] ∧ k0_off4 (grid0.coords t0_7) = ![(1 : Fin 2).val * 1024, 0] ∧ k0_off5 (grid0.coords t0_7) = ![(1 : Fin 2).val * 1024, 0] ∧ k0_off6 (grid0.coords t0_7) = ![(1 : Fin 2).val * 1024, 0] ∧ k0_off7 (grid0.coords t0_7) = ![(1 : Fin 2).val * 1024, 0] ∧ k0_off8 (grid0.coords t0_7) = ![(1 : Fin 2).val * 1024, 0] ∧ k0_off9 (grid0.coords t0_7) = ![(1 : Fin 2).val * 1024, 0] := by decide +kernel

abbrev ms (w : Fin cfg0.W) (t : Fin cfg0.N) := (cfg0.win w).stage (cfg0.slots t w)

/-- The body's precondition at a point, the result's window apart, and the postcondition. -/
abbrev ins (c : Dev nD) (t : Fin cfg0.N) : sProp 𝕄 :=
  iprop(owns (c : Thread nD τ) (win0_0.stage (cfg0.slots t 0)) fullShare (b0 m c t) ∗ owns (c : Thread nD τ) (win0_1.stage (cfg0.slots t 1)) fullShare (b1 m c t)
    ∗ owns (c : Thread nD τ) (win0_2.stage (cfg0.slots t 2)) fullShare (b2 m c t) ∗ owns (c : Thread nD τ) (win0_3.stage (cfg0.slots t 3)) fullShare (b3 m c t)
    ∗ owns (c : Thread nD τ) (win0_4.stage (cfg0.slots t 4)) fullShare (b4 m c t) ∗ owns (c : Thread nD τ) (win0_5.stage (cfg0.slots t 5)) fullShare (b5 m c t))
abbrev owesE (c : Dev nD) : sProp 𝕄 := iprop(∃ W, owes (c : Thread nD τ) 0 W)

end Cert.KernelIdeal.Hand
end
-- ==== Proof.StepsI.lean ====
module

public import proofs.«01_k».proof.Proof.Gen.KernelIdeal.Frame
public import proofs.«01_k».proof.Proof.Gen.KernelIdeal.Skeleton
public import proofs.«01_k».proof.Proof.BodyI

@[expose] public section

set_option maxRecDepth 16384

noncomputable section

namespace Cert.KernelIdeal.Hand

open Cert.KernelIdeal Cert.KernelIdeal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The user algebra: the pipeline library's beside the counters of the kernel's own transfer. -/
local notation "𝕄" => MT nD τ sig Unit (Elt F) ℕ (Pipeline.UD sig nD τ) ℕ

variable (m : (ℓ : Loc nD τ sig) → Buf (Elt F) ℓ) (ρ : Dev nD → PrngReg)

/-- Holding a memref at what it reads: its buffer at some contents that read so. -/
theorem owns_open {sp : Space} {S : Shape} {e : EltTy} (M : Memref sig .tc sp S e) (c : Dev nD) (X : S.Idx → Elt F e) :
    (owns (c : Thread nD τ) M fullShare X : sProp 𝕄) = iprop(∃ f, ⌜M.view.read (Elt F) f = X⌝ ∗ M.view.loc (c : Thread nD τ) ↦[M.view.set]{fullShare} f) := rfl

set_option maxHeartbeats 2000000 in
/-- The body at point 0. -/
theorem sound_0 (c : Dev nD) (K : PUnit → sProp 𝕄) :
    iprop(phi m c 0 ∗ owesE c ∗ ins m c t0_0 ∗ (iprop(phi m c 1 ∗ owesE c ∗ ins m c t0_0) -∗ K ⟨⟩))
    ⊢ wp frame (wpE (defs₀ (F := F)) Variants.none c none) Set.univ (bodyAt0 t0_0) K := by
  obtain ⟨hc1, hc2, hc3, hc4, hc5, hc6, hc7⟩ := cond_0
  obtain ⟨ho1, ho2, ho3, ho4, ho5, ho6, ho7, ho8, ho9⟩ := off_0
  unfold bodyAt0
  rw [show phi m c 0 = iprop(rest m c ∗ some' c adjM ∗ some' c disM ∗ some' c ysumM ∗ some' c ybM ∗ some' c y2sM ∗ some' c uM) from rfl,
    show phi m c 1 = iprop(fly m c ∗ some' c disM ∗ (∃ f, pt c ysumM (putB 0 f (ysF m c 0))) ∗ (∃ f, pt c ybM (putB 0 f (ybF m c 0)))
      ∗ (∃ f, pt c y2sM (putB 0 f (y2F m c 0))) ∗ some' c uM) from rfl]
  unfold ins owns
  iintro ⟨⟨⟨Hp, Hs, HH⟩, ⟨%f0, H0⟩, H1, ⟨%f2, H2⟩, ⟨%f3, H3⟩, ⟨%f4, H4⟩, H5⟩, HO, ⟨⟨%g0, %e0, G0⟩, ⟨%g1, %e1, G1⟩, ⟨%g2, %e2, G2⟩, ⟨%g3, %e3, G3⟩, ⟨%g4, %e4, G4⟩, G5⟩, Hk⟩
  iapply (run_start (c := c) (i := grid0.coords t0_0) (a3 := win0_0.stage (cfg0.slots t0_0 0)) (a4 := win0_1.stage (cfg0.slots t0_0 1)) (a5 := win0_2.stage (cfg0.slots t0_0 2))
    (a6 := win0_3.stage (cfg0.slots t0_0 3)) (a7 := win0_4.stage (cfg0.slots t0_0 4)) (a8 := win0_5.stage (cfg0.slots t0_0 5)) (a9 := win0_6.stage (cfg0.slots t0_0 6))
    hc1 hc2 hc3 hc4 hc5 hc6 hc7 0 ho1 g0 g1 g2 g3 g4 (ADJ m c) f0 f2 f3 f4 K)
  isplitl [G0]; · iexact G0
  isplitl [G1]; · iexact G1
  isplitl [G2]; · iexact G2
  isplitl [G3]; · iexact G3
  isplitl [G4]; · iexact G4
  isplitl [HH]; · iexact HH
  isplitl [H0]; · iexact H0
  isplitl [Hs]; · iexact Hs
  isplitl [H2]; · iexact H2
  isplitl [H3]; · iexact H3
  isplitl [H4]; · iexact H4
  iintro ⟨HF, G0, G1, G2, G3, G4, H2, H3, H4⟩
  iapply Hk
  rw [deliv_eq, e0, e1, e2, e3, e4, ysF_0, ybF_0, y2F_0]
  isplitl [Hp HF H1 H2 H3 H4 H5]
  · isplitl [Hp HF]
    · isplitl [Hp]; · iexact Hp
      iexact HF
    isplitl [H1]; · iexact H1
    isplitl [H2]; · iexists f2; iexact H2
    isplitl [H3]; · iexists f3; iexact H3
    isplitl [H4]; · iexists f4; iexact H4
    iexact H5
  isplitl [HO]; · iexact HO
  isplitl [G0]
  · iexists g0
    isplitr
    · ipureintro; exact e0
    iexact G0
  isplitl [G1]
  · iexists g1
    isplitr
    · ipureintro; exact e1
    iexact G1
  isplitl [G2]
  · iexists g2
    isplitr
    · ipureintro; exact e2
    iexact G2
  isplitl [G3]
  · iexists g3
    isplitr
    · ipureintro; exact e3
    iexact G3
  isplitl [G4]
  · iexists g4
    isplitr
    · ipureintro; exact e4
    iexact G4
  iexact G5
set_option maxHeartbeats 2000000 in
/-- The body at point 1. -/
theorem sound_1 (c : Dev nD) (K : PUnit → sProp 𝕄) :
    iprop(phi m c 1 ∗ owesE c ∗ ins m c t0_1 ∗ (iprop(phi m c 2 ∗ owesE c ∗ ins m c t0_1) -∗ K ⟨⟩))
    ⊢ wp frame (wpE (defs₀ (F := F)) Variants.none c none) Set.univ (bodyAt0 t0_1) K := by
  obtain ⟨hc1, hc2, hc3, hc4, hc5, hc6, hc7⟩ := cond_1
  obtain ⟨ho1, ho2, ho3, ho4, ho5, ho6, ho7, ho8, ho9⟩ := off_1
  unfold bodyAt0
  rw [show phi m c 1 = iprop(fly m c ∗ some' c disM ∗ (∃ f, pt c ysumM (putB 0 f (ysF m c 0))) ∗ (∃ f, pt c ybM (putB 0 f (ybF m c 0)))
      ∗ (∃ f, pt c y2sM (putB 0 f (y2F m c 0))) ∗ some' c uM) from rfl,
    show phi m c 2 = iprop(fly m c ∗ some' c disM ∗ pt c ysumM (YS m c) ∗ pt c ybM (YB m c) ∗ pt c y2sM (Y2 m c) ∗ some' c uM) from rfl]
  unfold ins owns
  iintro ⟨⟨HF, H1, ⟨%f2, H2⟩, ⟨%f3, H3⟩, ⟨%f4, H4⟩, H5⟩, HO, ⟨⟨%g0, %e0, G0⟩, ⟨%g1, %e1, G1⟩, ⟨%g2, %e2, G2⟩, ⟨%g3, %e3, G3⟩, ⟨%g4, %e4, G4⟩, G5⟩, Hk⟩
  iapply (run_prep (c := c) (i := grid0.coords t0_1) (a3 := win0_0.stage (cfg0.slots t0_1 0)) (a4 := win0_1.stage (cfg0.slots t0_1 1)) (a5 := win0_2.stage (cfg0.slots t0_1 2))
    (a6 := win0_3.stage (cfg0.slots t0_1 3)) (a7 := win0_4.stage (cfg0.slots t0_1 4)) (a8 := win0_5.stage (cfg0.slots t0_1 5)) (a9 := win0_6.stage (cfg0.slots t0_1 6))
    hc1 hc2 hc3 hc4 hc5 hc6 hc7 1 ho1 g0 g1 g2 g3 g4 _ _ _ K)
  isplitl [G0]; · iexact G0
  isplitl [G1]; · iexact G1
  isplitl [G2]; · iexact G2
  isplitl [G3]; · iexact G3
  isplitl [G4]; · iexact G4
  isplitl [H2]; · iexact H2
  isplitl [H3]; · iexact H3
  isplitl [H4]; · iexact H4
  iintro ⟨G0, G1, G2, G3, G4, H2, H3, H4⟩
  iapply Hk
  rw [e0, e1, e2, e3, e4, ← ysF_1, ← ybF_1, ← y2F_1, putB_putB, putB_putB, putB_putB]
  isplitl [HF H1 H2 H3 H4 H5]
  · isplitl [HF]; · iexact HF
    isplitl [H1]; · iexact H1
    isplitl [H2]; · iexact H2
    isplitl [H3]; · iexact H3
    isplitl [H4]; · iexact H4
    iexact H5
  isplitl [HO]; · iexact HO
  isplitl [G0]
  · iexists g0
    isplitr
    · ipureintro; exact e0
    iexact G0
  isplitl [G1]
  · iexists g1
    isplitr
    · ipureintro; exact e1
    iexact G1
  isplitl [G2]
  · iexists g2
    isplitr
    · ipureintro; exact e2
    iexact G2
  isplitl [G3]
  · iexists g3
    isplitr
    · ipureintro; exact e3
    iexact G3
  isplitl [G4]
  · iexists g4
    isplitr
    · ipureintro; exact e4
    iexact G4
  iexact G5
set_option maxHeartbeats 2000000 in
/-- The body at point 2. -/
theorem sound_2 (c : Dev nD) (K : PUnit → sProp 𝕄) :
    iprop(phi m c 2 ∗ owesE c ∗ ins m c t0_2 ∗ (iprop(phi m c 3 ∗ owesE c ∗ ins m c t0_2) -∗ K ⟨⟩))
    ⊢ wp frame (wpE (defs₀ (F := F)) Variants.none c none) Set.univ (bodyAt0 t0_2) K := by
  obtain ⟨hc1, hc2, hc3, hc4, hc5, hc6, hc7⟩ := cond_2
  obtain ⟨ho1, ho2, ho3, ho4, ho5, ho6, ho7, ho8, ho9⟩ := off_2
  unfold bodyAt0
  rw [show phi m c 2 = iprop(fly m c ∗ some' c disM ∗ pt c ysumM (YS m c) ∗ pt c ybM (YB m c) ∗ pt c y2sM (Y2 m c) ∗ some' c uM) from rfl,
    show phi m c 3 = iprop(rest m c ∗ pt c adjM (ADJ m c) ∗ (∃ f, pt c disM (putB 0 f (disF m c 0))) ∗ pt c ysumM (YS m c) ∗ pt c ybM (YB m c)
      ∗ pt c y2sM (putB 0 (Y2 m c) (y2sF m c 0)) ∗ some' c uM) from rfl]
  iintro ⟨⟨⟨Hp, HF⟩, ⟨%f1, H1⟩, H2, H3, H4, H5⟩, ⟨%W, HO⟩, HI, Hk⟩
  iapply (run_wait (c := c) (i := grid0.coords t0_2) (a3 := win0_0.stage (cfg0.slots t0_2 0)) (a4 := win0_1.stage (cfg0.slots t0_2 1)) (a5 := win0_2.stage (cfg0.slots t0_2 2))
    (a6 := win0_3.stage (cfg0.slots t0_2 3)) (a7 := win0_4.stage (cfg0.slots t0_2 4)) (a8 := win0_5.stage (cfg0.slots t0_2 5)) (a9 := win0_6.stage (cfg0.slots t0_2 6))
    hc1 hc2 hc3 hc4 hc5 hc6 hc7 0 ho2 ho3 ho4 (ADJ m c) W (ADJ m c) f1 (Y2 m c) K)
  isplitl [HF]; · iexact HF
  isplitl [HO]; · iexact HO
  isplitl [H1]; · iexact H1
  isplitl [H4]; · iexact H4
  iintro ⟨HH, Hs, HO, H0, H1, H4⟩
  iapply Hk
  rw [← show disF m c 0 = k0_pay5 (blk 0 (ADJ m c)) from rfl, ← show y2sF m c 0 = k0_pay6 (blk 0 (ADJ m c)) (blk 0 (Y2 m c)) from rfl]
  isplitl [Hp Hs HH H0 H1 H2 H3 H4 H5]
  · isplitl [Hp Hs HH]
    · isplitl [Hp]; · iexact Hp
      isplitl [Hs]; · iexact Hs
      iexact HH
    isplitl [H0]; · iexact H0
    isplitl [H1]; · iexists f1; iexact H1
    isplitl [H2]; · iexact H2
    isplitl [H3]; · iexact H3
    isplitl [H4]; · iexact H4
    iexact H5
  isplitl [HO]; · iexists _; iexact HO
  iexact HI
set_option maxHeartbeats 2000000 in
/-- The body at point 3. -/
theorem sound_3 (c : Dev nD) (K : PUnit → sProp 𝕄) :
    iprop(phi m c 3 ∗ owesE c ∗ ins m c t0_3 ∗ (iprop(phi m c 4 ∗ owesE c ∗ ins m c t0_3) -∗ K ⟨⟩))
    ⊢ wp frame (wpE (defs₀ (F := F)) Variants.none c none) Set.univ (bodyAt0 t0_3) K := by
  obtain ⟨hc1, hc2, hc3, hc4, hc5, hc6, hc7⟩ := cond_3
  obtain ⟨ho1, ho2, ho3, ho4, ho5, ho6, ho7, ho8, ho9⟩ := off_3
  unfold bodyAt0
  rw [show phi m c 3 = iprop(rest m c ∗ pt c adjM (ADJ m c) ∗ (∃ f, pt c disM (putB 0 f (disF m c 0))) ∗ pt c ysumM (YS m c) ∗ pt c ybM (YB m c)
      ∗ pt c y2sM (putB 0 (Y2 m c) (y2sF m c 0)) ∗ some' c uM) from rfl,
    show phi m c 4 = iprop(rest m c ∗ pt c adjM (ADJ m c) ∗ pt c disM (DIS m c) ∗ pt c ysumM (YS m c) ∗ pt c ybM (YB m c)
      ∗ pt c y2sM (Y2S m c) ∗ some' c uM) from rfl]
  iintro ⟨⟨⟨Hp, Hs, HH⟩, H0, ⟨%f1, H1⟩, H2, H3, H4, H5⟩, HO, HI, Hk⟩
  iapply (run_rows (c := c) (i := grid0.coords t0_3) (a3 := win0_0.stage (cfg0.slots t0_3 0)) (a4 := win0_1.stage (cfg0.slots t0_3 1)) (a5 := win0_2.stage (cfg0.slots t0_3 2))
    (a6 := win0_3.stage (cfg0.slots t0_3 3)) (a7 := win0_4.stage (cfg0.slots t0_3 4)) (a8 := win0_5.stage (cfg0.slots t0_3 5)) (a9 := win0_6.stage (cfg0.slots t0_3 6))
    hc1 hc2 hc3 hc4 hc5 hc6 hc7 1 ho2 ho3 ho4 (ADJ m c) _ _ K)
  isplitl [H0]; · iexact H0
  isplitl [H1]; · iexact H1
  isplitl [H4]; · iexact H4
  iintro ⟨H0, H1, H4⟩
  iapply Hk
  rw [blk_putB_other 0 1 (by decide), ← show disF m c 1 = k0_pay5 (blk 1 (ADJ m c)) from rfl, ← show y2sF m c 1 = k0_pay6 (blk 1 (ADJ m c)) (blk 1 (Y2 m c)) from rfl, putB_putB, putB_putB]
  isplitl [Hp Hs HH H0 H1 H2 H3 H4 H5]
  · isplitl [Hp Hs HH]
    · isplitl [Hp]; · iexact Hp
      isplitl [Hs]; · iexact Hs
      iexact HH
    isplitl [H0]; · iexact H0
    isplitl [H1]; · iexact H1
    isplitl [H2]; · iexact H2
    isplitl [H3]; · iexact H3
    isplitl [H4]; · iexact H4
    iexact H5
  isplitl [HO]; · iexact HO
  iexact HI
set_option maxHeartbeats 2000000 in
/-- The body at point 4. -/
theorem sound_4 (c : Dev nD) (K : PUnit → sProp 𝕄) :
    iprop(phi m c 4 ∗ owesE c ∗ ins m c t0_4 ∗ (iprop(phi m c 5 ∗ owesE c ∗ ins m c t0_4) -∗ K ⟨⟩))
    ⊢ wp frame (wpE (defs₀ (F := F)) Variants.none c none) Set.univ (bodyAt0 t0_4) K := by
  obtain ⟨hc1, hc2, hc3, hc4, hc5, hc6, hc7⟩ := cond_4
  obtain ⟨ho1, ho2, ho3, ho4, ho5, ho6, ho7, ho8, ho9⟩ := off_4
  unfold bodyAt0
  rw [show phi m c 4 = iprop(rest m c ∗ pt c adjM (ADJ m c) ∗ pt c disM (DIS m c) ∗ pt c ysumM (YS m c) ∗ pt c ybM (YB m c)
      ∗ pt c y2sM (Y2S m c) ∗ some' c uM) from rfl,
    show phi m c 5 = iprop(rest m c ∗ pt c adjM (ADJ m c) ∗ pt c disM (DIS m c) ∗ pt c ysumM (YS m c) ∗ pt c ybM (YB m c)
      ∗ pt c y2sM (Y2S m c) ∗ (∃ f, pt c uM (putB 0 f (uF m c 0)))) from rfl]
  iintro ⟨⟨⟨Hp, Hs, HH⟩, H0, H1, H2, H3, H4, ⟨%f5, H5⟩⟩, HO, HI, Hk⟩
  iapply (run_u (c := c) (i := grid0.coords t0_4) (a3 := win0_0.stage (cfg0.slots t0_4 0)) (a4 := win0_1.stage (cfg0.slots t0_4 1)) (a5 := win0_2.stage (cfg0.slots t0_4 2))
    (a6 := win0_3.stage (cfg0.slots t0_4 3)) (a7 := win0_4.stage (cfg0.slots t0_4 4)) (a8 := win0_5.stage (cfg0.slots t0_4 5)) (a9 := win0_6.stage (cfg0.slots t0_4 6))
    hc1 hc2 hc3 hc4 hc5 hc6 hc7 0 ho5 ho6 (ADJ m c) (Y2S m c) f5 K)
  isplitl [H0]; · iexact H0
  isplitl [H4]; · iexact H4
  isplitl [H5]; · iexact H5
  iintro ⟨H0, H4, H5⟩
  iapply Hk
  rw [← show uF m c 0 = k0_pay7 (blk 0 (ADJ m c)) (Y2S m c) from rfl]
  isplitl [Hp Hs HH H0 H1 H2 H3 H4 H5]
  · isplitl [Hp Hs HH]
    · isplitl [Hp]; · iexact Hp
      isplitl [Hs]; · iexact Hs
      iexact HH
    isplitl [H0]; · iexact H0
    isplitl [H1]; · iexact H1
    isplitl [H2]; · iexact H2
    isplitl [H3]; · iexact H3
    isplitl [H4]; · iexact H4
    iexists f5; iexact H5
  isplitl [HO]; · iexact HO
  iexact HI
set_option maxHeartbeats 2000000 in
/-- The body at point 5. -/
theorem sound_5 (c : Dev nD) (K : PUnit → sProp 𝕄) :
    iprop(phi m c 5 ∗ owesE c ∗ ins m c t0_5 ∗ (iprop(phi m c 6 ∗ owesE c ∗ ins m c t0_5) -∗ K ⟨⟩))
    ⊢ wp frame (wpE (defs₀ (F := F)) Variants.none c none) Set.univ (bodyAt0 t0_5) K := by
  obtain ⟨hc1, hc2, hc3, hc4, hc5, hc6, hc7⟩ := cond_5
  obtain ⟨ho1, ho2, ho3, ho4, ho5, ho6, ho7, ho8, ho9⟩ := off_5
  unfold bodyAt0
  rw [show phi m c 5 = iprop(rest m c ∗ pt c adjM (ADJ m c) ∗ pt c disM (DIS m c) ∗ pt c ysumM (YS m c) ∗ pt c ybM (YB m c)
      ∗ pt c y2sM (Y2S m c) ∗ (∃ f, pt c uM (putB 0 f (uF m c 0)))) from rfl,
    show phi m c 6 = iprop(rest m c ∗ pt c adjM (ADJ m c) ∗ pt c disM (DIS m c) ∗ pt c ysumM (YS m c) ∗ pt c ybM (YB m c)
      ∗ pt c y2sM (Y2S m c) ∗ pt c uM (UU m c)) from rfl]
  iintro ⟨⟨⟨Hp, Hs, HH⟩, H0, H1, H2, H3, H4, ⟨%f5, H5⟩⟩, HO, HI, Hk⟩
  iapply (run_u (c := c) (i := grid0.coords t0_5) (a3 := win0_0.stage (cfg0.slots t0_5 0)) (a4 := win0_1.stage (cfg0.slots t0_5 1)) (a5 := win0_2.stage (cfg0.slots t0_5 2))
    (a6 := win0_3.stage (cfg0.slots t0_5 3)) (a7 := win0_4.stage (cfg0.slots t0_5 4)) (a8 := win0_5.stage (cfg0.slots t0_5 5)) (a9 := win0_6.stage (cfg0.slots t0_5 6))
    hc1 hc2 hc3 hc4 hc5 hc6 hc7 1 ho5 ho6 (ADJ m c) (Y2S m c) _ K)
  isplitl [H0]; · iexact H0
  isplitl [H4]; · iexact H4
  isplitl [H5]; · iexact H5
  iintro ⟨H0, H4, H5⟩
  iapply Hk
  rw [← show uF m c 1 = k0_pay7 (blk 1 (ADJ m c)) (Y2S m c) from rfl, putB_putB]
  isplitl [Hp Hs HH H0 H1 H2 H3 H4 H5]
  · isplitl [Hp Hs HH]
    · isplitl [Hp]; · iexact Hp
      isplitl [Hs]; · iexact Hs
      iexact HH
    isplitl [H0]; · iexact H0
    isplitl [H1]; · iexact H1
    isplitl [H2]; · iexact H2
    isplitl [H3]; · iexact H3
    isplitl [H4]; · iexact H4
    iexact H5
  isplitl [HO]; · iexact HO
  iexact HI
set_option maxHeartbeats 2000000 in
/-- The body at point 6. -/
theorem sound_6 (c : Dev nD) (K : PUnit → sProp 𝕄) :
    iprop(phi m c 6 ∗ owesE c ∗ ins m c t0_6 ∗ (∃ g9, ptS c (win0_6.stage (cfg0.slots t0_6 6)) g9) ∗ (iprop(phi m c 7 ∗ owesE c ∗ ins m c t0_6 ∗ owns (c : Thread nD τ) (win0_6.stage (cfg0.slots t0_6 6)) fullShare (outAt m c t0_6)) -∗ K ⟨⟩))
    ⊢ wp frame (wpE (defs₀ (F := F)) Variants.none c none) Set.univ (bodyAt0 t0_6) K := by
  obtain ⟨hc1, hc2, hc3, hc4, hc5, hc6, hc7⟩ := cond_6
  obtain ⟨ho1, ho2, ho3, ho4, ho5, ho6, ho7, ho8, ho9⟩ := off_6
  unfold bodyAt0
  rw [show phi m c 6 = iprop(rest m c ∗ pt c adjM (ADJ m c) ∗ pt c disM (DIS m c) ∗ pt c ysumM (YS m c) ∗ pt c ybM (YB m c)
      ∗ pt c y2sM (Y2S m c) ∗ pt c uM (UU m c)) from rfl,
    show phi m c 7 = iprop(rest m c ∗ pt c adjM (ADJ m c) ∗ pt c disM (DIS m c) ∗ pt c ysumM (YS m c) ∗ pt c ybM (YB m c)
      ∗ pt c y2sM (Y2S m c) ∗ pt c uM (RHS m c)) from rfl]
  unfold ins
  rw [owns_open (win0_5.stage (cfg0.slots t0_6 5))]
  iintro ⟨⟨⟨Hp, Hs, HH⟩, H0, H1, H2, H3, H4, H5⟩, HO, ⟨G0, G1, G2, G3, G4, ⟨%g5, %e5, G5⟩⟩, ⟨%g9, G9⟩, Hk⟩
  iapply (run_rhs (c := c) (i := grid0.coords t0_6) (a3 := win0_0.stage (cfg0.slots t0_6 0)) (a4 := win0_1.stage (cfg0.slots t0_6 1)) (a5 := win0_2.stage (cfg0.slots t0_6 2))
    (a6 := win0_3.stage (cfg0.slots t0_6 3)) (a7 := win0_4.stage (cfg0.slots t0_6 4)) (a8 := win0_5.stage (cfg0.slots t0_6 5)) (a9 := win0_6.stage (cfg0.slots t0_6 6))
    hc1 hc2 hc3 hc4 hc5 hc6 hc7 0 ho7 ho8 ho9 (ADJ m c) (DIS m c) (YS m c) (YB m c) (UU m c) g5 g9 K)
  isplitl [H0]; · iexact H0
  isplitl [H1]; · iexact H1
  isplitl [H2]; · iexact H2
  isplitl [H3]; · iexact H3
  isplitl [H5]; · iexact H5
  isplitl [G5]; · iexact G5
  isplitl [G9]; · iexact G9
  iintro ⟨H0, H1, H2, H3, H5, G5, G9⟩
  iapply Hk
  rw [← show RHS m c = k0_pay8 (DIS m c) (YB m c) (UU m c) from rfl, e5, show k0_pay9 (F := F) (blk 0 (ADJ m c)) (RHS m c) (blk 0 (YS m c)) (blk 0 (DIS m c)) (b5 m c t0_6) = outAt m c t0_6 from rfl]
  isplitl [Hp Hs HH H0 H1 H2 H3 H4 H5]
  · isplitl [Hp Hs HH]
    · isplitl [Hp]; · iexact Hp
      isplitl [Hs]; · iexact Hs
      iexact HH
    isplitl [H0]; · iexact H0
    isplitl [H1]; · iexact H1
    isplitl [H2]; · iexact H2
    isplitl [H3]; · iexact H3
    isplitl [H4]; · iexact H4
    iexact H5
  isplitl [HO]; · iexact HO
  isplitr [G9]
  · isplitl [G0]; · iexact G0
    isplitl [G1]; · iexact G1
    isplitl [G2]; · iexact G2
    isplitl [G3]; · iexact G3
    isplitl [G4]; · iexact G4
    iexists g5
    isplitr
    · ipureintro; exact e5
    iexact G5
  iexact G9
set_option maxHeartbeats 2000000 in
/-- The body at point 7. -/
theorem sound_7 (c : Dev nD) (K : PUnit → sProp 𝕄) :
    iprop(phi m c 7 ∗ owesE c ∗ ins m c t0_7 ∗ (∃ g9, ptS c (win0_6.stage (cfg0.slots t0_7 6)) g9) ∗ (iprop(phi m c 8 ∗ owesE c ∗ ins m c t0_7 ∗ owns (c : Thread nD τ) (win0_6.stage (cfg0.slots t0_7 6)) fullShare (outAt m c t0_7)) -∗ K ⟨⟩))
    ⊢ wp frame (wpE (defs₀ (F := F)) Variants.none c none) Set.univ (bodyAt0 t0_7) K := by
  obtain ⟨hc1, hc2, hc3, hc4, hc5, hc6, hc7⟩ := cond_7
  obtain ⟨ho1, ho2, ho3, ho4, ho5, ho6, ho7, ho8, ho9⟩ := off_7
  unfold bodyAt0
  rw [show phi m c 7 = iprop(rest m c ∗ pt c adjM (ADJ m c) ∗ pt c disM (DIS m c) ∗ pt c ysumM (YS m c) ∗ pt c ybM (YB m c)
      ∗ pt c y2sM (Y2S m c) ∗ pt c uM (RHS m c)) from rfl,
    show phi m c 8 = iprop(rest m c ∗ pt c adjM (ADJ m c) ∗ pt c disM (DIS m c) ∗ pt c ysumM (YS m c) ∗ pt c ybM (YB m c)
      ∗ pt c y2sM (Y2S m c) ∗ pt c uM (RHS m c)) from rfl]
  unfold ins
  rw [owns_open (win0_5.stage (cfg0.slots t0_7 5))]
  iintro ⟨⟨⟨Hp, Hs, HH⟩, H0, H1, H2, H3, H4, H5⟩, HO, ⟨G0, G1, G2, G3, G4, ⟨%g5, %e5, G5⟩⟩, ⟨%g9, G9⟩, Hk⟩
  iapply (run_out (c := c) (i := grid0.coords t0_7) (a3 := win0_0.stage (cfg0.slots t0_7 0)) (a4 := win0_1.stage (cfg0.slots t0_7 1)) (a5 := win0_2.stage (cfg0.slots t0_7 2))
    (a6 := win0_3.stage (cfg0.slots t0_7 3)) (a7 := win0_4.stage (cfg0.slots t0_7 4)) (a8 := win0_5.stage (cfg0.slots t0_7 5)) (a9 := win0_6.stage (cfg0.slots t0_7 6))
    hc1 hc2 hc3 hc4 hc5 hc6 hc7 1 ho7 ho8 ho9 (ADJ m c) (DIS m c) (YS m c) (RHS m c) g5 g9 K)
  isplitl [H0]; · iexact H0
  isplitl [H1]; · iexact H1
  isplitl [H2]; · iexact H2
  isplitl [H5]; · iexact H5
  isplitl [G5]; · iexact G5
  isplitl [G9]; · iexact G9
  iintro ⟨H0, H1, H2, H5, G5, G9⟩
  iapply Hk
  rw [e5, show k0_pay9 (F := F) (blk 1 (ADJ m c)) (RHS m c) (blk 1 (YS m c)) (blk 1 (DIS m c)) (b5 m c t0_7) = outAt m c t0_7 from rfl]
  isplitl [Hp Hs HH H0 H1 H2 H3 H4 H5]
  · isplitl [Hp Hs HH]
    · isplitl [Hp]; · iexact Hp
      isplitl [Hs]; · iexact Hs
      iexact HH
    isplitl [H0]; · iexact H0
    isplitl [H1]; · iexact H1
    isplitl [H2]; · iexact H2
    isplitl [H3]; · iexact H3
    isplitl [H4]; · iexact H4
    iexact H5
  isplitl [HO]; · iexact HO
  isplitr [G9]
  · isplitl [G0]; · iexact G0
    isplitl [G1]; · iexact G1
    isplitl [G2]; · iexact G2
    isplitl [G3]; · iexact G3
    isplitl [G4]; · iexact G4
    iexists g5
    isplitr
    · ipureintro; exact e5
    iexact G5
  iexact G9

end Cert.KernelIdeal.Hand
end
-- ==== Proof.FrameI.lean ====
module

public import proofs.«01_k».proof.Proof.Gen.KernelIdeal.Frame
public import proofs.«01_k».proof.Proof.Gen.KernelIdeal.Skeleton
public import proofs.«01_k».proof.Proof.StepsI

@[expose] public section

set_option maxRecDepth 16384

noncomputable section

/-! The body's obligation, the run of the kernel's main program, and its frame. -/

namespace Cert.KernelIdeal.Hand

open Cert.KernelIdeal Cert.KernelIdeal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The user algebra: the pipeline library's beside the counters of the kernel's own transfer. -/
local notation "𝕄" => MT nD τ sig Unit (Elt F) ℕ (Pipeline.UD sig nD τ) ℕ

variable (m : (ℓ : Loc nD τ sig) → Buf (Elt F) ℓ) (ρ : Dev nD → PrngReg)

abbrev insD (c : Dev nD) (t : Fin cfg0.N) : sProp 𝕄 :=
  iprop((∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)))
/-- What the body's obligation hands the body at a point, and what it takes back: at a point that stores no result,
the result's window as it was; at one that does, the point's half. -/
abbrev bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)))
abbrev bodyPostI (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t)
    ∗ (∃ d, owns (c : Thread nD τ) (win0_6.stage (cfg0.slots t 6)) fullShare ((dats m 0 c).before 6 t d)))
abbrev bodyPostO (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t))

theorem owns_some {sp : Space} {S : Shape} {e : EltTy} (M : Memref sig .tc sp S e) (c : Dev nD) (X : S.Idx → Elt F e) :
    (owns (c : Thread nD τ) M fullShare X : sProp 𝕄) ⊢ iprop(∃ g, ptS c M g) := by
  rw [owns_open]
  iintro ⟨%g, -, H⟩
  iexists g
  iexact H

set_option maxHeartbeats 4000000 in
theorem sound_idle (c : Dev nD) (t : Fin cfg0.N)
    (hs : ∀ K : PUnit → sProp 𝕄, iprop(phi m c t.val ∗ owesE c ∗ ins m c t ∗ (iprop(phi m c (t.val + 1) ∗ owesE c ∗ ins m c t) -∗ K ⟨⟩))
      ⊢ wp frame (wpE (defs₀ (F := F)) Variants.none c none) Set.univ (bodyAt0 t) K) :
    bodyPre m c t ⊢ wp frame (wpE (defs₀ (F := F)) Variants.none c none) Set.univ (bodyAt0 t) (fun _ => bodyPostI m c t) := by
  unfold bodyPre bodyPostI
  rw [show (dats m 0 c).Φ t.castSucc = phi m c t.val from rfl, show (dats m 0 c).Φ t.succ = phi m c (t.val + 1) from rfl]
  unfold Dat.owesAt Pipeline.owesWithin
  rw [show (dats m 0 c).owed t.castSucc = 0 from rfl, show (dats m 0 c).owed t.succ = 0 from rfl]
  simp only [bf0, bf1, bf2, bf3, bf4, bf5]
  rw [show (dats m 0 c).after 0 t = b0 m c t from rfl, show (dats m 0 c).after 1 t = b1 m c t from rfl, show (dats m 0 c).after 2 t = b2 m c t from rfl, show (dats m 0 c).after 3 t = b3 m c t from rfl, show (dats m 0 c).after 4 t = b4 m c t from rfl, show (dats m 0 c).after 5 t = b5 m c t from rfl]
  iintro ⟨HΦ, ⟨%W, -, HW⟩, ⟨%d0, G0⟩, ⟨%d1, G1⟩, ⟨%d2, G2⟩, ⟨%d3, G3⟩, ⟨%d4, G4⟩, ⟨%d5, G5⟩, ⟨%d6, G6⟩⟩
  iapply (hs _)
  isplitl [HΦ]; · iexact HΦ
  isplitl [HW]; · iexists W; iexact HW
  isplitl [G0 G1 G2 G3 G4 G5]
  · isplitl [G0]; · iexact G0
    isplitl [G1]; · iexact G1
    isplitl [G2]; · iexact G2
    isplitl [G3]; · iexact G3
    isplitl [G4]; · iexact G4
    iexact G5
  iintro ⟨HΦ, ⟨%W', HW⟩, ⟨G0, G1, G2, G3, G4, G5⟩⟩
  isplitl [HΦ]; · iexact HΦ
  isplitl [HW]
  · iexists W'
    isplitr
    · ipureintro; exact fun _ _ => Or.inl trivial
    iexact HW
  isplitl [G0]; · iexact G0
  isplitl [G1]; · iexact G1
  isplitl [G2]; · iexact G2
  isplitl [G3]; · iexact G3
  isplitl [G4]; · iexact G4
  isplitl [G5]; · iexact G5
  iexists d6; iexact G6

set_option maxHeartbeats 4000000 in
theorem sound_stores (c : Dev nD) (t : Fin cfg0.N)
    (hs : ∀ K : PUnit → sProp 𝕄, iprop(phi m c t.val ∗ owesE c ∗ ins m c t ∗ (∃ g9, ptS c (win0_6.stage (cfg0.slots t 6)) g9) ∗ (iprop(phi m c (t.val + 1) ∗ owesE c ∗ ins m c t ∗ owns (c : Thread nD τ) (win0_6.stage (cfg0.slots t 6)) fullShare (outAt m c t)) -∗ K ⟨⟩))
      ⊢ wp frame (wpE (defs₀ (F := F)) Variants.none c none) Set.univ (bodyAt0 t) K) :
    bodyPre m c t ⊢ wp frame (wpE (defs₀ (F := F)) Variants.none c none) Set.univ (bodyAt0 t) (fun _ => bodyPostO m c t) := by
  unfold bodyPre bodyPostO
  rw [show (dats m 0 c).Φ t.castSucc = phi m c t.val from rfl, show (dats m 0 c).Φ t.succ = phi m c (t.val + 1) from rfl]
  unfold Dat.owesAt Pipeline.owesWithin
  rw [show (dats m 0 c).owed t.castSucc = 0 from rfl, show (dats m 0 c).owed t.succ = 0 from rfl]
  simp only [bf0, bf1, bf2, bf3, bf4, bf5]
  rw [show (dats m 0 c).after 0 t = b0 m c t from rfl, show (dats m 0 c).after 1 t = b1 m c t from rfl, show (dats m 0 c).after 2 t = b2 m c t from rfl, show (dats m 0 c).after 3 t = b3 m c t from rfl, show (dats m 0 c).after 4 t = b4 m c t from rfl, show (dats m 0 c).after 5 t = b5 m c t from rfl]
  rw [show (dats m 0 c).after 6 t = outAt m c t from rfl]
  iintro ⟨HΦ, ⟨%W, -, HW⟩, ⟨%d0, G0⟩, ⟨%d1, G1⟩, ⟨%d2, G2⟩, ⟨%d3, G3⟩, ⟨%d4, G4⟩, ⟨%d5, G5⟩, ⟨%d6, G6⟩⟩
  iapply (hs _)
  isplitl [HΦ]; · iexact HΦ
  isplitl [HW]; · iexists W; iexact HW
  isplitl [G0 G1 G2 G3 G4 G5]
  · isplitl [G0]; · iexact G0
    isplitl [G1]; · iexact G1
    isplitl [G2]; · iexact G2
    isplitl [G3]; · iexact G3
    isplitl [G4]; · iexact G4
    iexact G5
  isplitl [G6]
  · iapply (owns_some (win0_6.stage (cfg0.slots t 6)) c ((dats m 0 c).before 6 t d6))
    iexact G6
  iintro ⟨HΦ, ⟨%W', HW⟩, ⟨G0, G1, G2, G3, G4, G5⟩, G6⟩
  isplitl [HΦ]; · iexact HΦ
  isplitl [HW]
  · iexists W'
    isplitr
    · ipureintro; exact fun _ _ => Or.inl trivial
    iexact HW
  isplitl [G0]; · iexact G0
  isplitl [G1]; · iexact G1
  isplitl [G2]; · iexact G2
  isplitl [G3]; · iexact G3
  isplitl [G4]; · iexact G4
  isplitl [G5]; · iexact G5
  iexact G6

theorem defs₀_row (t : Fin cfg0.N) :
    defs₀ (F := F) .tc cfg0.body (cfg0.bodyArgs t (cfg0.slots t)) = bodyAt0 t := by
  unfold defs₀; rw [Defs.onTc_tc]

/-- The result's window is idle and not written back at the first six points, and stored at the last two. -/
theorem idle_0 : cfg0.idle 6 (cfg0.grid.coords t0_0) = true ∧ (cfg0.win 6).flush t0_0 = false := by decide +kernel
theorem idle_1 : cfg0.idle 6 (cfg0.grid.coords t0_1) = true ∧ (cfg0.win 6).flush t0_1 = false := by decide +kernel
theorem idle_2 : cfg0.idle 6 (cfg0.grid.coords t0_2) = true ∧ (cfg0.win 6).flush t0_2 = false := by decide +kernel
theorem idle_3 : cfg0.idle 6 (cfg0.grid.coords t0_3) = true ∧ (cfg0.win 6).flush t0_3 = false := by decide +kernel
theorem idle_4 : cfg0.idle 6 (cfg0.grid.coords t0_4) = true ∧ (cfg0.win 6).flush t0_4 = false := by decide +kernel
theorem idle_5 : cfg0.idle 6 (cfg0.grid.coords t0_5) = true ∧ (cfg0.win 6).flush t0_5 = false := by decide +kernel
theorem idle_6 : cfg0.idle 6 (cfg0.grid.coords t0_6) = false := by decide +kernel
theorem idle_7 : cfg0.idle 6 (cfg0.grid.coords t0_7) = false := by decide +kernel

theorem body_obligation (c : Dev nD) : BodyObligation (dats (F := F) m 0 c) (defs₀ (F := F)) Variants.none () Set.univ := fun t => by
  rw [bigSep_W0, bigSep_W0, defs₀_row]
  rcases fin_N0 t with rfl | rfl | rfl | rfl | rfl | rfl | rfl | rfl
  · rw [idle_0.1, idle_0.2]; exact triple_restated (sound_idle m c t0_0 (sound_0 m c)) rfl .rfl fun _ => .rfl
  · rw [idle_1.1, idle_1.2]; exact triple_restated (sound_idle m c t0_1 (sound_1 m c)) rfl .rfl fun _ => .rfl
  · rw [idle_2.1, idle_2.2]; exact triple_restated (sound_idle m c t0_2 (sound_2 m c)) rfl .rfl fun _ => .rfl
  · rw [idle_3.1, idle_3.2]; exact triple_restated (sound_idle m c t0_3 (sound_3 m c)) rfl .rfl fun _ => .rfl
  · rw [idle_4.1, idle_4.2]; exact triple_restated (sound_idle m c t0_4 (sound_4 m c)) rfl .rfl fun _ => .rfl
  · rw [idle_5.1, idle_5.2]; exact triple_restated (sound_idle m c t0_5 (sound_5 m c)) rfl .rfl fun _ => .rfl
  · rw [idle_6]; exact triple_restated (sound_stores m c t0_6 (sound_6 m c)) rfl .rfl fun _ => .rfl
  · rw [idle_7]; exact triple_restated (sound_stores m c t0_7 (sound_7 m c)) rfl .rfl fun _ => .rfl

end Cert.KernelIdeal.Hand
end
-- ==== Proof.LaunchI.lean ====
module

public import proofs.«01_k».proof.Proof.Gen.KernelIdeal.Frame
public import proofs.«01_k».proof.Proof.Gen.KernelIdeal.Skeleton
public import proofs.«01_k».proof.Proof.FrameI

@[expose] public section

set_option maxRecDepth 16384

noncomputable section

/-! The run of the kernel's main program, and its frame. -/

namespace Cert.KernelIdeal.Hand

open Cert.KernelIdeal Cert.KernelIdeal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The user algebra: the pipeline library's beside the counters of the kernel's own transfer. -/
local notation "𝕄" => MT nD τ sig Unit (Elt F) ℕ (Pipeline.UD sig nD τ) ℕ

variable (m : (ℓ : Loc nD τ sig) → Buf (Elt F) ℓ) (ρ : Dev nD → PrngReg)

/-- The array the body copies itself. -/
def H0 : Finset (Ref sig .tc) := {main_arg1}
theorem H0_sub : H0 ⊆ Pipeline.restRefs sig spec0 := by decide
/-- The copy's semaphore. -/
abbrev osem0 : Fin 1 → SemLoc sig := fun j => (![SemLoc.dma 9] : Fin 1 → SemLoc sig) j
theorem ownSemFacts0 : Pipeline.OwnSemFacts spec0 osem0 := by decide

theorem ownSems_at (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 9) 0 := by
  rw [Pipeline.ownSems0_eq_of_list c osem0 [0] (by decide) (by decide)]; rfl

theorem moved_at (c : Dev nD) :
    (BI.bigSep H0 fun b => ((c : Thread nD τ).loc b) ↦{fullShare} V m c b : sProp 𝕄) = pt c adjHbm (ADJ m c) := by
  rw [BI.bigSep_eq_bigSepL_of_eq [main_arg1] (by decide) (by decide)]; rfl

/-- Before the first point and after the last, what the launch hands the body: its scratch at some contents, its semaphore
at zero, the array it copies as the region found it. -/
theorem phi_in (c : Dev nD) : Pipeline.ΦD osem0 spec0 H0 (V m) c ⊢ (dats m 0 c).Φ 0 := by
  rw [show (dats m 0 c).Φ 0 = iprop(rest m c ∗ some' c adjM ∗ some' c disM ∗ some' c ysumM ∗ some' c ybM ∗ some' c y2sM ∗ some' c uM) from rfl, Pipeline.ΦD_eq, scopedRest0_eq, ownSems_at, moved_at]
  iintro ⟨⟨H0, H1, H2, H3, H4, H5⟩, Hp, Hs, Ha⟩
  isplitl [Hp Hs Ha]
  · isplitl [Hp]; · iexact Hp
    isplitl [Hs]; · iexact Hs
    iexact Ha
  isplitl [H0]; · iexact H0
  isplitl [H1]; · iexact H1
  isplitl [H2]; · iexact H2
  isplitl [H3]; · iexact H3
  isplitl [H4]; · iexact H4
  iexact H5
theorem phi_out (c : Dev nD) : (dats m 0 c).Φ (Fin.last cfg0.N) ⊢ Pipeline.ΦD osem0 spec0 H0 (V m) c := by
  rw [show (dats m 0 c).Φ (Fin.last cfg0.N) = iprop(rest m c ∗ pt c adjM (ADJ m c) ∗ pt c disM (DIS m c) ∗ pt c ysumM (YS m c) ∗ pt c ybM (YB m c) ∗ pt c y2sM (Y2S m c) ∗ pt c uM (RHS m c)) from rfl, Pipeline.ΦD_eq, scopedRest0_eq, ownSems_at, moved_at]
  iintro ⟨⟨Hp, Hs, Ha⟩, H0, H1, H2, H3, H4, H5⟩
  isplitl [H0 H1 H2 H3 H4 H5]
  · isplitl [H0]; · iexists (ADJ m c); iexact H0
    isplitl [H1]; · iexists (DIS m c); iexact H1
    isplitl [H2]; · iexists (YS m c); iexact H2
    isplitl [H3]; · iexists (YB m c); iexact H3
    isplitl [H4]; · iexists (Y2S m c); iexact H4
    iexists (RHS m c); iexact H5
  isplitl [Hp]; · iexact Hp
  isplitl [Hs]; · iexact Hs
  iexact Ha

/-- The lines after the region touch neither the copied array nor anything outside the bypassing buffers and the pipeline's arrays. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  intro b hb
  simp only [H0, Finset.mem_singleton] at hb
  subst hb
  simp only [hostOps1, List.mem_cons, List.mem_nil_iff, or_false] at hop
  rcases hop with rfl | rfl
  all_goals
    simp only [StableHlo.unary_bufs, StableHlo.reshape_bufs, Finset.mem_insert, Finset.mem_singleton, not_or]
    exact ⟨StableHlo.devRef_ne_of_ne (by decide), StableHlo.devRef_ne_of_ne (by decide)⟩

set_option maxHeartbeats 800000 in
/-- The main program as the lines before the region, the region, and the lines after it. -/
theorem around : Pipeline.HMainK (Ix := Unit) (Name := ℕ) (U := Pipeline.UD sig nD τ) (Lvl := ℕ) cfgs 0 defs₀ Variants.none m (main (F := F)) (V m)
    (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

set_option backward.isDefEq.respectTransparency.types false in
/-- The main program runs: no fault, the arrays as the points left them, the counters at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := around m) (hA := A_eq m) (hin := phi_in m) (hout := phi_out m)

/-- A buffer that neither the pipeline nor a host line writes ends as the region found it. -/
theorem tail_keeps (c : Dev nD) (b : Ref sig .tc) (h36 : b ≠ main_v37) (h38 : b ≠ main_v38) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.unary_writes, StableHlo.reshape_writes, Finset.mem_singleton]
      exact ⟨StableHlo.devRef_ne_of_ne h36, StableHlo.devRef_ne_of_ne h38⟩)),
    Pipeline.withArrays_of_ne _ c (V0 m c) _ b hw]

/-- Of a run's end: the argument arrays are as launched. -/
theorem kept {r : PUnit × MemSt nD τ sig (Elt F)} (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
    ⟨((h c).1 0).trans (((dats m 0 c).arrAt_in 0 rfl _).trans ((A_eq m c 0).trans (V_main_arg0 m c))),
      ((h c).2 main_arg1 (Pipeline.mem_restRefs_of main_arg1 (by decide) (by decide))).trans ((tail_keeps m c main_arg1 (by decide) (by decide) (by decide)).trans (V_main_arg1 m c)),
      ((h c).2 main_arg2 (Pipeline.mem_restRefs_of main_arg2 (by decide) (by decide))).trans ((tail_keeps m c main_arg2 (by decide) (by decide) (by decide)).trans (V_main_arg2 m c)),
      ((h c).1 2).trans (((dats m 0 c).arrAt_in 2 rfl _).trans ((A_eq m c 2).trans (V_main_arg3 m c))),
      ((h c).2 main_arg4 (Pipeline.mem_restRefs_of main_arg4 (by decide) (by decide))).trans ((tail_keeps m c main_arg4 (by decide) (by decide) (by decide)).trans (V_main_arg4 m c)),
      ((h c).2 main_arg5 (Pipeline.mem_restRefs_of main_arg5 (by decide) (by decide))).trans ((tail_keeps m c main_arg5 (by decide) (by decide) (by decide)).trans (V_main_arg5 m c)),
      ((h c).2 main_arg6 (Pipeline.mem_restRefs_of main_arg6 (by decide) (by decide))).trans ((tail_keeps m c main_arg6 (by decide) (by decide) (by decide)).trans (V_main_arg6 m c))⟩

/-- THE FRAME: the main program runs, its argument arrays end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ ⟨h, hz⟩ => ⟨fun c => kept m h c, hz⟩) (run_main m ρ)

/-- The main program runs, its result array ends as the host lines leave it, its argument arrays end as launched. -/
theorem result : θ_run defs (onTc (τ := τ) (main (F := F))) ⟨m, fun _ => 0, ρ⟩ (fun r => ∀ c : Dev nD,
      r.2.mem ((c.tc : Thread nD τ).loc main_v38) = Pipeline.afterTail₀ cfgs (dats m) 0 (V0 m) [hostOps1] c main_v38
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ ⟨h, _⟩ c => ⟨(h c).2 main_v38 (Pipeline.mem_restRefs_of main_v38 (by decide) (by decide)), kept m h c⟩) (run_main m ρ)

end Cert.KernelIdeal.Hand
end
-- ==== Proof.Algebra.lean ====
module

public import Idealize.ShloMosaic.Lib.IdealHost
public import Mathlib.Tactic.NormNum
public import Mathlib.Tactic.Ring
public import Mathlib.Tactic.FieldSimp
public import Mathlib.Tactic.Linarith
public import Mathlib.Tactic.Positivity

@[expose] public section

noncomputable section

/-! The mathematics shared by kernel and reference: layer normalisation computed in two ways, the inverse square roots of
    the row sums, and the three-term Chebyshev filter computed in two ways; all over the extended reals. -/

namespace Cert.Alg

open Idealize.ShloMosaic

/-! ## The literals -/

/-- The constant 128. -/
theorem bits_128 : Ideal.ofBits .f32 0x43000000#32 = ((128 : ℝ) : EReal) := by
  simp [Ideal.ofBits, Ideal.ieee, -EReal.coe_mul]; norm_num
/-- The constant 2. -/
theorem bits_2 : Ideal.ofBits .f32 0x40000000#32 = ((2 : ℝ) : EReal) := by
  simp [Ideal.ofBits, Ideal.ieee, -EReal.coe_mul]; norm_num
/-- The constant 4. -/
theorem bits_4 : Ideal.ofBits .f32 0x40800000#32 = ((4 : ℝ) : EReal) := by
  simp [Ideal.ofBits, Ideal.ieee, -EReal.coe_mul]; norm_num
/-- The small constant under the root is a positive real. -/
theorem bits_eps : ∃ e : ℝ, 0 < e ∧ Ideal.ofBits .f32 0x358637BD#32 = (e : EReal) := by
  simp [Ideal.ofBits, Ideal.ieee, -EReal.coe_mul]
/-- The constant infinity. -/
theorem bits_top : Ideal.ofBits .f32 0x7F800000#32 = ⊤ := by
  simp [Ideal.ofBits, Ideal.ieee]

/-- An identity matrix's entry, from the comparison of two coordinates. -/
theorem eye_entry {w : ℕ} (i j : ℕ) (hi : i < 2 ^ 32) (hj : j < 2 ^ 32) (n k : Fin w) (hn : n.val = i) (hk : k.val = j) :
    FloatOps.uitofp (F := Ideal) .f32 (IntOp.cmpi CmpIPredicate.eq (IntOp.addi (BitVec.ofNat 32 i) 0#32) (BitVec.ofNat 32 j))
      = (((if n = k then 1 else 0 : ℝ) : ℝ) : EReal) := by
  show (((IntOp.cmpi CmpIPredicate.eq (BitVec.ofNat 32 i + 0#32) (BitVec.ofNat 32 j)).toNat : ℝ) : EReal) = _
  rw [BitVec.add_zero]
  by_cases h : n = k
  · have e : i = j := by rw [← hn, ← hk, h]
    rw [if_pos h, e]; simp [IntOp.cmpi]
  · have e : BitVec.ofNat 32 i ≠ BitVec.ofNat 32 j := by
      intro hh
      have := congrArg BitVec.toNat hh
      rw [BitVec.toNat_ofNat, BitVec.toNat_ofNat, Nat.mod_eq_of_lt hi, Nat.mod_eq_of_lt hj] at this
      exact h (Fin.ext (by rw [hn, hk, this]))
    rw [if_neg h]; simp [IntOp.cmpi, e]

/-! ## Sums of extended reals -/

section Sums

variable {ι : Type} [Fintype ι]

/-- A sum of real numbers is the real sum. -/
theorem coe_sum (f : ι → ℝ) : (∑ i, (f i : EReal)) = ((∑ i, f i : ℝ) : EReal) := by
  classical
  have h : ∀ s : Finset ι, (∑ i ∈ s, (f i : EReal)) = ((∑ i ∈ s, f i : ℝ) : EReal) := by
    intro s
    induction s using Finset.induction_on with
    | empty => simp
    | insert a s ha ih => rw [Finset.sum_insert ha, Finset.sum_insert ha, ih, EReal.coe_add]
  exact h _

/-- A sum with a term minus infinity is minus infinity. -/
theorem sum_bot (x : ι → EReal) (i : ι) (hi : x i = ⊥) : (∑ j, x j) = ⊥ := by
  classical
  rw [← Finset.add_sum_erase _ _ (Finset.mem_univ i), hi, EReal.bot_add]

/-- A sum without a term minus infinity is not minus infinity. -/
theorem sum_ne_bot (x : ι → EReal) (s : Finset ι) (h : ∀ j, x j ≠ ⊥) : (∑ j ∈ s, x j) ≠ ⊥ := by
  classical
  induction s using Finset.induction_on with
  | empty => simp
  | insert a s ha ih => rw [Finset.sum_insert ha]; exact EReal.add_ne_bot_iff.mpr ⟨h a, ih⟩

/-- A sum with a term plus infinity and none minus infinity is plus infinity. -/
theorem sum_top (x : ι → EReal) (i : ι) (hi : x i = ⊤) (h : ∀ j, x j ≠ ⊥) : (∑ j, x j) = ⊤ := by
  classical
  rw [← Finset.add_sum_erase _ _ (Finset.mem_univ i), hi, EReal.top_add_of_ne_bot (sum_ne_bot x _ h)]

/-- A family is real throughout, or has an infinite term and so an infinite sum. -/
theorem real_or_inf (x : ι → EReal) : (∃ f : ι → ℝ, ∀ i, x i = (f i : EReal)) ∨ ((∃ i, x i = ⊤ ∨ x i = ⊥) ∧ ((∑ j, x j) = ⊤ ∨ (∑ j, x j) = ⊥)) := by
  by_cases h : ∃ i, x i = ⊤ ∨ x i = ⊥
  · refine Or.inr ⟨h, ?_⟩
    by_cases hb : ∃ i, x i = ⊥
    · obtain ⟨i, hi⟩ := hb; exact Or.inr (sum_bot x i hi)
    · obtain ⟨i, hi | hi⟩ := h
      · exact Or.inl (sum_top x i hi (fun j hj => hb ⟨j, hj⟩))
      · exact absurd ⟨i, hi⟩ hb
  · refine Or.inl ⟨fun i => (x i).toReal, fun i => (EReal.coe_toReal (fun ht => h ⟨i, Or.inl ht⟩) (fun hb => h ⟨i, Or.inr hb⟩)).symm⟩

end Sums

/-! ## Quotients -/

/-- A quotient by infinity is zero. -/
theorem div_top (x : EReal) : Ideal.div x ⊤ = 0 := by simp [Ideal.div]
/-- A quotient by minus infinity is zero. -/
theorem div_bot (x : EReal) : Ideal.div x ⊥ = 0 := by simp [Ideal.div]
/-- Dividing by 128 is multiplying by its inverse. -/
theorem div_128 (x : EReal) : Ideal.div x (Ideal.ofBits .f32 0x43000000#32) = x * ((1 / 128 : ℝ) : EReal) := by
  rw [bits_128, Ideal.div_coe (by norm_num)]

/-! ## The layer normalisation -/

/-- One entry of a normalised row, the variance as the mean square less the squared mean: scaled by `1 + sc`, shifted by `sh`. -/
def lnK (x : Fin 128 → EReal) (sc sh : EReal) (k : Fin 128) : EReal :=
  x k * ((1 + sc) * Ideal.div 1 (Ideal.sqrt (Ideal.div (∑ j, x j * x j) (Ideal.ofBits .f32 0x43000000#32)
      - Ideal.div (∑ j, x j) (Ideal.ofBits .f32 0x43000000#32) * Ideal.div (∑ j, x j) (Ideal.ofBits .f32 0x43000000#32)
      + Ideal.ofBits .f32 0x358637BD#32)))
    + (sh - Ideal.div (∑ j, x j) (Ideal.ofBits .f32 0x43000000#32)
      * ((1 + sc) * Ideal.div 1 (Ideal.sqrt (Ideal.div (∑ j, x j * x j) (Ideal.ofBits .f32 0x43000000#32)
      - Ideal.div (∑ j, x j) (Ideal.ofBits .f32 0x43000000#32) * Ideal.div (∑ j, x j) (Ideal.ofBits .f32 0x43000000#32)
      + Ideal.ofBits .f32 0x358637BD#32))))

/-- One entry less the row's mean. -/
def cen (x : Fin 128 → EReal) (k : Fin 128) : EReal := x k - Ideal.div (∑ j, x j) (Ideal.ofBits .f32 0x43000000#32)

/-- The same entry, the variance as the mean of the squared differences from the mean. -/
def lnR (x : Fin 128 → EReal) (sc sh : EReal) (k : Fin 128) : EReal :=
  Ideal.div (cen x k) (Ideal.sqrt (Ideal.div (∑ j, cen x j * cen x j) (Ideal.ofBits .f32 0x43000000#32) + Ideal.ofBits .f32 0x358637BD#32))
    * (1 + sc) + sh

/-- The mean square less the squared mean is the mean of the squared differences. -/
theorem var_eq (f : Fin 128 → ℝ) :
    (∑ j, f j * f j) * (1 / 128) - (∑ j, f j) * (1 / 128) * ((∑ j, f j) * (1 / 128))
      = (∑ j, (f j - (∑ i, f i) * (1 / 128)) * (f j - (∑ i, f i) * (1 / 128))) * (1 / 128) := by
  have h : ∀ M : ℝ, (∑ j, (f j - M) * (f j - M)) = (∑ j, f j * f j) - 2 * M * (∑ j, f j) + 128 * (M * M) := by
    intro M
    have e : ∀ j, (f j - M) * (f j - M) = f j * f j - 2 * M * f j + M * M := fun j => by ring
    simp only [e, Finset.sum_add_distrib, Finset.sum_sub_distrib, ← Finset.mul_sum]
    simp; ring
  rw [h]; ring

/-- On a real row both normalisations give one real number. -/
theorem ln_real (f : Fin 128 → ℝ) (sc sh : ℝ) (k : Fin 128) :
    ∃ y : ℝ, lnK (fun j => (f j : EReal)) sc sh k = y ∧ lnR (fun j => (f j : EReal)) sc sh k = y := by
  obtain ⟨e, he, hb⟩ := bits_eps
  set M : ℝ := (∑ i, f i) * (1 / 128) with hM
  have hvar := var_eq f
  set v : ℝ := (∑ j, (f j - M) * (f j - M)) * (1 / 128) with hv
  have hv0 : 0 ≤ v := mul_nonneg (Finset.sum_nonneg fun j _ => mul_self_nonneg _) (by norm_num)
  have hs : Real.sqrt (v + e) ≠ 0 := (Real.sqrt_pos.mpr (by linarith)).ne'
  refine ⟨(f k - M) * (1 / Real.sqrt (v + e)) * (1 + sc) + sh, ?_, ?_⟩
  · unfold lnK
    simp only [div_128, hb, ← EReal.coe_mul, coe_sum, ← EReal.coe_sub, ← EReal.coe_add]
    rw [← hM, hvar, Ideal.sqrt_coe, if_neg (by linarith), Ideal.div_coe hs, one_mul, ← EReal.coe_one]
    simp only [← EReal.coe_mul, ← EReal.coe_sub, ← EReal.coe_add]
    congr 1; ring
  · unfold lnR cen
    simp only [div_128, hb, ← EReal.coe_mul, coe_sum, ← EReal.coe_sub, ← EReal.coe_add]
    rw [← hM, ← hv, Ideal.sqrt_coe, if_neg (by linarith), Ideal.div_coe hs, ← EReal.coe_one]
    simp only [← EReal.coe_mul, ← EReal.coe_sub, ← EReal.coe_add]

/-- Infinity divided by 128 is infinity. -/
theorem top_scale : (⊤ : EReal) * ((1 / 128 : ℝ) : EReal) = ⊤ := EReal.top_mul_coe_of_pos (by norm_num)
/-- Minus infinity divided by 128 is minus infinity. -/
theorem bot_scale : (⊥ : EReal) * ((1 / 128 : ℝ) : EReal) = ⊥ := EReal.bot_mul_coe_of_pos (by norm_num)

/-- A square is not minus infinity. -/
theorem sq_ne_bot (z : EReal) : z * z ≠ ⊥ := by
  induction z with
  | bot => simp
  | top => simp
  | coe r => rw [← EReal.coe_mul]; exact EReal.coe_ne_bot _

/-- A row with an infinite entry: both ways give the shift. -/
theorem ln_inf (x : Fin 128 → EReal) (hx : ∃ i, x i = ⊤ ∨ x i = ⊥) (hs : (∑ j, x j) = ⊤ ∨ (∑ j, x j) = ⊥) (sc sh : ℝ) (k : Fin 128) :
    lnK x sc sh k = sh ∧ lnR x sc sh k = sh := by
  obtain ⟨e, he, hb⟩ := bits_eps
  have hq : (∑ j, x j * x j) = ⊤ := by
    obtain ⟨i, hi⟩ := hx
    refine sum_top _ i ?_ (fun j => sq_ne_bot _)
    rcases hi with hi | hi <;> simp [hi]
  have hmm : ((∑ j, x j) * ((1 / 128 : ℝ) : EReal)) * ((∑ j, x j) * ((1 / 128 : ℝ) : EReal)) = ⊤ := by
    rcases hs with h | h
    · rw [h, top_scale]; simp
    · rw [h, bot_scale]; simp
  constructor
  · unfold lnK
    simp only [div_128, hq, hb, hmm, top_scale]
    have h0 : Ideal.div 1 (Ideal.sqrt ((⊤ : EReal) - ⊤ + e)) = 0 := by
      rw [sub_eq_add_neg, EReal.neg_top, EReal.add_bot, EReal.bot_add, Ideal.sqrt_bot, div_bot]
    rw [h0]; simp
  · unfold lnR
    have hc : ∀ j, cen x j * cen x j = ⊤ := by
      intro j
      unfold cen
      rw [div_128]
      rcases hs with h | h
      · rw [h, top_scale, sub_eq_add_neg, EReal.neg_top, EReal.add_bot]; simp
      · rw [h, bot_scale, sub_eq_add_neg, EReal.neg_bot]
        by_cases hj : x j = ⊥
        · rw [hj, EReal.bot_add]; simp
        · rw [EReal.add_top_of_ne_bot hj]; simp
    have hcs : (∑ j, cen x j * cen x j) = ⊤ := sum_top _ k (hc k) (fun j => sq_ne_bot _)
    rw [hcs, div_128, top_scale, hb, EReal.top_add_coe, Ideal.sqrt_top, div_top]; simp

/-- Both ways of normalising give one real number, whatever the row. -/
theorem ln_eq (x : Fin 128 → EReal) (sc sh : ℝ) (k : Fin 128) : ∃ y : ℝ, lnK x sc sh k = y ∧ lnR x sc sh k = y := by
  rcases real_or_inf x with ⟨f, hf⟩ | ⟨hx, hs⟩
  · obtain rfl : x = fun j => (f j : EReal) := funext hf
    exact ln_real f sc sh k
  · exact ⟨sh, ln_inf x hx hs sc sh k⟩

/-! ## The activation -/

/-- An extended real other than plus infinity, times its logistic, is real. -/
theorem silu_real (a : EReal) (h : a ≠ ⊤) : ∃ r : ℝ, a * Ideal.logistic a = r := by
  induction a with
  | bot => exact ⟨0, by simp⟩
  | top => exact absurd rfl h
  | coe r => exact ⟨r * (1 + Real.exp (-r))⁻¹, by rw [Ideal.logistic_coe, ← EReal.coe_mul]⟩

/-! ## The inverse square roots of the row sums -/

section Filter

variable {ι : Type} [Fintype ι]

/-- The inverse square root of a row's sum. -/
def dis (a : ι → ι → EReal) (n : ι) : EReal := Ideal.div 1 (Ideal.sqrt (∑ m, a n m))

/-- A nonzero row sum: its inverse square root is real, and either zero or the row is real. -/
theorem dis_row (a : ι → ι → EReal) (n : ι) (h : (∑ m, a n m) ≠ 0) :
    ∃ D : ℝ, dis a n = D ∧ (D = 0 ∨ ∀ m, a n m = ((a n m).toReal : EReal)) := by
  unfold dis
  rcases real_or_inf (a n) with ⟨f, hf⟩ | ⟨-, hs⟩
  · have e : (∑ m, a n m) = ((∑ m, f m : ℝ) : EReal) := by rw [← coe_sum]; exact Finset.sum_congr rfl fun m _ => hf m
    rw [e] at h ⊢
    have h0 : (∑ m, f m) ≠ 0 := fun hh => h (by rw [hh]; rfl)
    rw [Ideal.sqrt_coe]
    by_cases hn : (∑ m, f m) < 0
    · rw [if_pos hn, div_bot]; exact ⟨0, rfl, Or.inl rfl⟩
    · have hp : 0 < ∑ m, f m := lt_of_le_of_ne (not_lt.mp hn) (Ne.symm h0)
      rw [if_neg hn, Ideal.div_coe (Real.sqrt_pos.mpr hp).ne', one_mul]
      exact ⟨_, rfl, Or.inr fun m => by rw [hf m, EReal.toReal_coe]⟩
  · rcases hs with hs | hs <;> rw [hs]
    · rw [Ideal.sqrt_top, div_top]; exact ⟨0, rfl, Or.inl rfl⟩
    · rw [Ideal.sqrt_bot, div_bot]; exact ⟨0, rfl, Or.inl rfl⟩

/-! ## The filter -/

variable (a : ι → ι → EReal) (D : ι → ℝ) (hD : ∀ n, dis a n = D n) (hr : ∀ n, D n = 0 ∨ ∀ m, a n m = ((a n m).toReal : EReal))

include hr in
/-- A row's product with a real vector, scaled by a multiple of the row's inverse square root, is real. -/
theorem scaled (n : ι) (t : ℝ) (r : ι → ℝ) : ((t * D n : ℝ) : EReal) * (∑ m, a n m * (r m : EReal)) = ((t * D n * ∑ m, (a n m).toReal * r m : ℝ) : EReal) := by
  rcases hr n with h | h
  · rw [h]; simp
  · have e : (∑ m, a n m * (r m : EReal)) = ((∑ m, (a n m).toReal * r m : ℝ) : EReal) := by
      rw [← coe_sum]
      exact Finset.sum_congr rfl fun m _ => by rw [EReal.coe_mul, ← h m]
    rw [e, ← EReal.coe_mul]

include hr in
/-- An entry scaled by its row's inverse square root is real. -/
theorem scaled_entry (n m : ι) : (D n : EReal) * a n m = ((D n * (a n m).toReal : ℝ) : EReal) := by
  rcases hr n with h | h
  · rw [h]; simp
  · conv_lhs => rw [h m]
    rw [← EReal.coe_mul]

/-- The real filter, of the three products of the input with the weights. -/
def filt (A : ι → ι → ℝ) (D : ι → ℝ) (p : Fin 3 → ι → ℝ) (n : ι) : ℝ :=
  p 0 n + p 1 n + p 2 n - D n * ∑ m, A n m * (D m * (p 1 m + 4 * p 2 m) - 2 * (D m * D m) * ∑ l, A m l * (p 2 l * D l))

include hD hr in
/-- The kernel's way, two products with the matrix. -/
theorem kernel_way (p : Fin 3 → ι → ℝ) (n : ι) :
    (((p 0 n + p 1 n + p 2 n : ℝ) : EReal) - dis a n * ∑ m, a n m * (dis a m * ((p 1 m + 4 * p 2 m : ℝ) : EReal)
        - ((2 : ℝ) : EReal) * (dis a m * dis a m) * ∑ l, a m l * (((p 2 l : ℝ) : EReal) * dis a l)))
      = (filt (fun n m => (a n m).toReal) D p n : EReal) := by
  simp only [hD]
  have e : ∀ m, (D m : EReal) * ((p 1 m + 4 * p 2 m : ℝ) : EReal) - ((2 : ℝ) : EReal) * ((D m : EReal) * (D m : EReal)) * ∑ l, a m l * (((p 2 l : ℝ) : EReal) * (D l : EReal))
      = ((D m * (p 1 m + 4 * p 2 m) - 2 * (D m * D m) * ∑ l, (a m l).toReal * (p 2 l * D l) : ℝ) : EReal) := by
    intro m
    have s := scaled a D hr m (2 * D m) (fun l => p 2 l * D l)
    have c : ((2 : ℝ) : EReal) * ((D m : EReal) * (D m : EReal)) = ((2 * D m * D m : ℝ) : EReal) := by
      rw [← EReal.coe_mul, ← EReal.coe_mul, mul_assoc]
    simp only [← EReal.coe_mul] at s c ⊢
    rw [c, s, ← EReal.coe_sub, mul_assoc 2]
  simp only [e]
  have s := scaled a D hr n 1 (fun m => D m * (p 1 m + 4 * p 2 m) - 2 * (D m * D m) * ∑ l, (a m l).toReal * (p 2 l * D l))
  rw [one_mul] at s
  rw [s, ← EReal.coe_sub]
  rfl

variable [DecidableEq ι]

/-- The normalised Laplacian, in the reals. -/
def lapR (A : ι → ι → ℝ) (D : ι → ℝ) (n m : ι) : ℝ := (if n = m then 1 else 0) - D n * A n m * D m

/-- The three Chebyshev polynomials of the Laplacian, in the reals. -/
def chebR (A : ι → ι → ℝ) (D : ι → ℝ) (t : Fin 3) (n m : ι) : ℝ :=
  if t = 0 then (if n = m then 1 else 0) else if t = 1 then lapR A D n m
  else 2 * (∑ k, lapR A D n k * lapR A D k m) - (if n = m then 1 else 0)

/-- The Laplacian applied to a vector. -/
theorem lapR_mul (A : ι → ι → ℝ) (D : ι → ℝ) (n : ι) (q : ι → ℝ) : (∑ m, lapR A D n m * q m) = q n - D n * ∑ m, A n m * (D m * q m) := by
  unfold lapR
  simp only [sub_mul, Finset.sum_sub_distrib, ite_mul, one_mul, zero_mul, Finset.sum_ite_eq, Finset.mem_univ, if_true, Finset.mul_sum]
  congr 1
  exact Finset.sum_congr rfl fun m _ => by ring

/-- The filter is the sum of the three polynomials applied to the three products. -/
theorem filt_eq (A : ι → ι → ℝ) (D : ι → ℝ) (p : Fin 3 → ι → ℝ) (n : ι) :
    (∑ t, ∑ m, chebR A D t n m * p t m) = filt A D p n := by
  have h2 : (∑ m, (∑ k, lapR A D n k * lapR A D k m) * p 2 m) = ∑ k, lapR A D n k * ∑ m, lapR A D k m * p 2 m := by
    simp only [Finset.sum_mul, Finset.mul_sum]
    rw [Finset.sum_comm]
    exact Finset.sum_congr rfl fun k _ => Finset.sum_congr rfl fun m _ => mul_assoc _ _ _
  rw [Fin.sum_univ_three]
  have c0 : (∑ m, chebR A D 0 n m * p 0 m) = p 0 n := by simp [chebR]
  have c1 : (∑ m, chebR A D 1 n m * p 1 m) = p 1 n - D n * ∑ m, A n m * (D m * p 1 m) := by
    rw [← lapR_mul]; rfl
  have c2 : (∑ m, chebR A D 2 n m * p 2 m) = 2 * (∑ k, lapR A D n k * ∑ m, lapR A D k m * p 2 m) - p 2 n := by
    rw [← h2]
    have e : ∀ m, chebR A D 2 n m * p 2 m = 2 * ((∑ k, lapR A D n k * lapR A D k m) * p 2 m) - (if n = m then 1 else 0) * p 2 m := by
      intro m
      show (2 * (∑ k, lapR A D n k * lapR A D k m) - (if n = m then 1 else 0)) * p 2 m = _
      ring
    simp only [e, Finset.sum_sub_distrib, ← Finset.mul_sum, ite_mul, one_mul, zero_mul, Finset.sum_ite_eq, Finset.mem_univ, if_true]
  rw [c0, c1, c2, lapR_mul]
  simp only [lapR_mul]
  unfold filt
  have e : ∀ m, A n m * (D m * (p 1 m + 4 * p 2 m) - 2 * (D m * D m) * ∑ l, A m l * (p 2 l * D l))
      = A n m * (D m * p 1 m) + 2 * (A n m * (D m * p 2 m)) + 2 * (A n m * (D m * (p 2 m - D m * ∑ l, A m l * (D l * p 2 l)))) := by
    intro m
    have c : (∑ l, A m l * (p 2 l * D l)) = ∑ l, A m l * (D l * p 2 l) := Finset.sum_congr rfl fun l _ => by ring
    rw [c]; ring
  simp only [e, Finset.sum_add_distrib, ← Finset.mul_sum]
  ring

/-- The reference's way: the input through the polynomials, then through the weights, added up. -/
theorem reference_way {κ : Type} [Fintype κ] (A : ι → ι → ℝ) (D : ι → ℝ) (x : ι → κ → ℝ) (w : Fin 3 → κ → ℝ) (n : ι) :
    (∑ t, ∑ k, (∑ m, (chebR A D t n m : EReal) * (x m k : EReal)) * (w t k : EReal))
      = (filt A D (fun t m => ∑ k, x m k * w t k) n : EReal) := by
  rw [← filt_eq]
  simp only [← EReal.coe_mul, coe_sum]
  congr 1
  refine Finset.sum_congr rfl fun t _ => ?_
  simp only [Finset.sum_mul, Finset.mul_sum]
  rw [Finset.sum_comm]
  exact Finset.sum_congr rfl fun m _ => Finset.sum_congr rfl fun k _ => by ring

end Filter

end Cert.Alg
end
-- ==== Proof.PayRead.lean ====
module

public import proofs.«01_k».proof.Proof.RunI
public import proofs.«01_k».proof.Proof.Algebra
public import Idealize.ShloMosaic.Lib.Pointwise

@[expose] public section

set_option maxRecDepth 16384

noncomputable section

/-! The kernel's payloads at an index. -/

namespace Cert.KernelIdeal.Hand

open Cert.KernelIdeal Cert.KernelIdeal.Gen Cert.Halves Cert.Alg
open Idealize.ShloMosaic

/-- The inverse square root of a row sum, stored. -/
theorem pay5_at (a : Vec Ideal S1024x2048 .f32) (r : Fin 1024) (z : Fin 1) :
    k0_pay5 (F := Ideal) a (ix2 r z) = Ideal.div 1 (Ideal.sqrt (∑ m : Fin 2048, a (ix2 r m))) := by
  pointwise [k0_pay5, k0_pay4]
/-- A product scaled by its row's inverse square root. -/
theorem pay6_at (a : Vec Ideal S1024x2048 .f32) (b : Vec Ideal S1024x24 .f32) (r : Fin 1024) (z : Fin 24) :
    k0_pay6 (F := Ideal) a b (ix2 r z) = b (ix2 r z) * Ideal.div 1 (Ideal.sqrt (∑ m : Fin 2048, a (ix2 r m))) := by
  pointwise [k0_pay6, k0_pay4]
/-- A product with the matrix, at an index. -/
theorem pay7_at (a : Vec Ideal S1024x2048 .f32) (b : Vec Ideal S2048x24 .f32) (r : Fin 1024) (z : Fin 24) :
    k0_pay7 (F := Ideal) a b (ix2 r z) = ∑ m : Fin 2048, a (ix2 r m) * b (ix2 m z) := by
  pointwise [k0_pay7]
/-- The right-hand side of the second product, at an index. -/
theorem pay8_at (a : Vec Ideal S2048x1 .f32) (b d : Vec Ideal S2048x24 .f32) (r : Fin 2048) (z : Fin 24) :
    k0_pay8 (F := Ideal) a b d (ix2 r z) = a (ix2 r 0) * b (ix2 r z) - ((2 : ℝ) : EReal) * (a (ix2 r 0) * a (ix2 r 0)) * d (ix2 r z) := by
  pointwise [k0_pay8]
  rw [bits_2]
/-- The stored half of the result, at an index. -/
theorem pay9_at (a : Vec Ideal S1024x2048 .f32) (b : Vec Ideal S2048x24 .f32) (d : Vec Ideal S1024x24 .f32) (e : Vec Ideal S1024x1 .f32)
    (f : Vec Ideal S1x24 .f32) (r : Fin 1024) (z : Fin 24) :
    k0_pay9 (F := Ideal) a b d e f (ix2 r z) = d (ix2 r z) - e (ix2 r 0) * (∑ m : Fin 2048, a (ix2 r m) * b (ix2 m z)) + f (ix2 0 z) := by
  pointwise [k0_pay9]

/-- The modulation the kernel computes. -/
def modK (x4 : Vec Ideal S8x128 .f32) (x5 : Vec Ideal S128x256 .f32) (x6 : Vec Ideal S1x256 .f32) (i : Fin 8) (j : Fin 256) : EReal :=
  (∑ k : Fin 128, x4 (ix2 i k) * Ideal.logistic (x4 (ix2 i k)) * x5 (ix2 k j)) + x6 (ix2 0 j)

/-- The prepared input, at an index. -/
theorem pay10_at (a : Vec Ideal S8x128 .f32) (w : Vec Ideal S128x256 .f32) (b : Vec Ideal S1x256 .f32) (x : Vec Ideal S8x1024x128 .f32)
    (i : Fin 8) (r : Fin 1024) (k : Fin 128) :
    k0_pay10 (F := Ideal) a w b x (ix3 i r k)
      = lnK (fun j => x (ix3 i r j)) (modK a w b i ⟨128 + k.val, by omega⟩) (modK a w b i ⟨k.val, by omega⟩) k := by
  pointwise [k0_pay10]
  rfl

/-- The prepared block, of whole loads, at an index. -/
theorem xmV_at (x3 : Vec Ideal S8x1024x128 .f32) (x4 : Vec Ideal S8x128 .f32) (x5 : Vec Ideal S128x256 .f32) (x6 : Vec Ideal S1x256 .f32)
    (i : Fin 8) (r : Fin 1024) (k : Fin 128) :
    xmV (F := Ideal) x3 x4 x5 x6 (ix3 i r k)
      = lnK (fun j => x3 (ix3 i r j)) (modK x4 x5 x6 i ⟨128 + k.val, by omega⟩) (modK x4 x5 x6 i ⟨k.val, by omega⟩) k := by
  have h3 : View.ld x3 (Rect.unit (s := S8x1024x128) ![0, 0, 0] S8x1024x128.size inb_S8x1024x128_S8x1024x128_0_0_0) = x3 := by
    funext j; unfold View.ld; refine congrArg x3 (funext fun a => Fin.ext ?_); fin_cases a <;> simp [Rect.unit]
  have h4 : View.ld x4 (Rect.unit (s := S8x128) ![0, 0] S8x128.size inb_S8x128_S8x128_0_0) = x4 := by
    funext j; unfold View.ld; refine congrArg x4 (funext fun a => Fin.ext ?_); fin_cases a <;> simp [Rect.unit]
  have h5 : View.ld x5 (Rect.unit (s := S128x256) ![0, 0] S128x256.size inb_S128x256_S128x256_0_0) = x5 := by
    funext j; unfold View.ld; refine congrArg x5 (funext fun a => Fin.ext ?_); fin_cases a <;> simp [Rect.unit]
  have h6 : View.ld x6 (Rect.unit (s := S1x256) ![0, 0] S1x256.size inb_S1x256_S1x256_0_0) = x6 := by
    funext j; unfold View.ld; refine congrArg x6 (funext fun a => Fin.ext ?_); fin_cases a <;> simp [Rect.unit]
  unfold xmV
  rw [h3, h4, h5, h6, pay10_at]

/-- A load of one matrix of the stacked weights. -/
theorem ld_w (x7 : Vec Ideal S3x8x128x24 .f32) (p q : ℕ) (hp : p < 3) (hq : q < 8) (h) (k : Fin 128) (z : Fin 24) :
    View.ld x7 (Rect.unit (s := S3x8x128x24) ![p, q, 0, 0] S1x1x128x24.size h) (ix4 0 0 k z) = x7 (ix4 ⟨p, hp⟩ ⟨q, hq⟩ k z) := by
  unfold View.ld
  refine congrArg x7 (funext fun a => Fin.ext ?_)
  fin_cases a <;> simp [Rect.unit]

/-- The first product with the weights: a sum over batches and channels. -/
theorem ysV_at (v : FVec Ideal S8x1024x128 .f32) (w : Vec Ideal S3x8x128x24 .f32) (r : Fin 1024) (z : Fin 24) :
    ysV (F := Ideal) v w (ix2 r z) = ∑ b : Fin 8, ∑ k : Fin 128, v (ix3 b r k) * w (ix4 0 b k z) := by
  pointwise [ysV, k0_pay1, k0_pay31, k0_pay25, k0_pay20, k0_pay14, k0_pay28, k0_pay29, k0_pay30, k0_pay23, k0_pay24, k0_pay17, k0_pay19, k0_pay11, k0_pay13]
  rw [Fin.sum_univ_eight]
  simp only [wAt00, wAt01, wAt02, wAt03, wAt04, wAt05, wAt06, wAt07]
  simp only [ld_w w 0 0 (by decide) (by decide), ld_w w 0 1 (by decide) (by decide), ld_w w 0 2 (by decide) (by decide), ld_w w 0 3 (by decide) (by decide), ld_w w 0 4 (by decide) (by decide), ld_w w 0 5 (by decide) (by decide), ld_w w 0 6 (by decide) (by decide), ld_w w 0 7 (by decide) (by decide)]
  rfl
/-- The second product with the weights. -/
theorem ybV_at (v : FVec Ideal S8x1024x128 .f32) (w : Vec Ideal S3x8x128x24 .f32) (r : Fin 1024) (z : Fin 24) :
    ybV (F := Ideal) v w (ix2 r z) = ∑ b : Fin 8, ∑ k : Fin 128, v (ix3 b r k) * w (ix4 1 b k z) := by
  pointwise [ybV, k0_pay2, k0_pay32, k0_pay26, k0_pay21, k0_pay15, k0_pay28, k0_pay29, k0_pay30, k0_pay23, k0_pay24, k0_pay17, k0_pay19, k0_pay11, k0_pay13]
  rw [Fin.sum_univ_eight]
  simp only [wAt10, wAt11, wAt12, wAt13, wAt14, wAt15, wAt16, wAt17]
  simp only [ld_w w 1 0 (by decide) (by decide), ld_w w 1 1 (by decide) (by decide), ld_w w 1 2 (by decide) (by decide), ld_w w 1 3 (by decide) (by decide), ld_w w 1 4 (by decide) (by decide), ld_w w 1 5 (by decide) (by decide), ld_w w 1 6 (by decide) (by decide), ld_w w 1 7 (by decide) (by decide)]
  rfl
/-- The third product with the weights. -/
theorem y2V_at (v : FVec Ideal S8x1024x128 .f32) (w : Vec Ideal S3x8x128x24 .f32) (r : Fin 1024) (z : Fin 24) :
    y2V (F := Ideal) v w (ix2 r z) = ∑ b : Fin 8, ∑ k : Fin 128, v (ix3 b r k) * w (ix4 2 b k z) := by
  pointwise [y2V, k0_pay3, k0_pay33, k0_pay27, k0_pay18, k0_pay12, k0_pay13, k0_pay16, k0_pay22, k0_pay28, k0_pay29, k0_pay30, k0_pay23, k0_pay24, k0_pay17, k0_pay19, k0_pay11]
  rw [Fin.sum_univ_eight]
  simp only [wAt20, wAt21, wAt22, wAt23, wAt24, wAt25, wAt26, wAt27]
  simp only [ld_w w 2 0 (by decide) (by decide), ld_w w 2 1 (by decide) (by decide), ld_w w 2 2 (by decide) (by decide), ld_w w 2 3 (by decide) (by decide), ld_w w 2 4 (by decide) (by decide), ld_w w 2 5 (by decide) (by decide), ld_w w 2 6 (by decide) (by decide), ld_w w 2 7 (by decide) (by decide)]
  rfl

end Cert.KernelIdeal.Hand
end
-- ==== Proof.HostRead.lean ====
module

public import proofs.«01_k».proof.Proof.LaunchI
public import proofs.«01_k».proof.Proof.PayRead
public import Idealize.ShloMosaic.Lib.Claim
public import Idealize.ShloMosaic.Lib.Pipeline.ValueKit

@[expose] public section

set_option maxRecDepth 16384

noncomputable section

/-! The operands the host lines prepare and the windows' blocks of them, at an index; the result array from the halves stored. -/

namespace Cert.KernelIdeal.Hand

open Cert.KernelIdeal Cert.KernelIdeal.Gen Cert.Halves Cert.Alg
open Idealize.ShloMosaic Idealize.ShloMosaic.TcCoe

variable (m : (b : Loc nD τ sig) → Buf (Elt Ideal) b)

/-! ## The host lines -/

/-- The conditioning input, reshaped. -/
theorem v0_eq (c : Dev nD) : V (F := Ideal) m c main_v0 = (shapeCast S8x128 (m ((c : Thread nD τ).loc main_arg2)) shapeCasts_S8x1x128_S8x128 : FVec Ideal S8x128 .f32) := by
  rfl
/-- The conditioning input, reshaped, at an index. -/
theorem v0_at (c : Dev nD) (i : Fin 8) (k : Fin 128) :
    (V (F := Ideal) m c main_v0 : Vec Ideal S8x128 .f32) (ix2 i k) = (m ((c : Thread nD τ).loc main_arg2) : Vec Ideal S8x1x128 .f32) (ix3 i 0 k) := by
  rw [v0_eq]
  pointwise

/-- The modulation's bias, reshaped. -/
theorem v1_eq (c : Dev nD) : V (F := Ideal) m c main_v1 = (shapeCast S1x256 (m ((c : Thread nD τ).loc main_arg4)) shapeCasts_S256_S1x256 : FVec Ideal S1x256 .f32) := by
  rfl
/-- The modulation's bias, reshaped, at an index. -/
theorem v1_at (c : Dev nD) (j : Fin 256) :
    (V (F := Ideal) m c main_v1 : Vec Ideal S1x256 .f32) (ix2 0 j) = (m ((c : Thread nD τ).loc main_arg4) : Vec Ideal S256 .f32) (ix1 j) := by
  rw [v1_eq]
  pointwise

/-- The filter's bias, one copy for each batch. -/
theorem v35_eq (c : Dev nD) : V (F := Ideal) m c main_v35 = (shapeCast S1x24 (broadcastInDim S1x1x8x3 ![0, 1, 2, 3] bcast_S1x1x1x3_S1x1x8x3_0_1_2_3
      (shapeCast S1x1x1x3 (shapeCast S1x3 (m ((c : Thread nD τ).loc main_arg6)) shapeCasts_S1x1x3_S1x3) shapeCasts_S1x3_S1x1x1x3)) shapeCasts_S1x1x8x3_S1x24 : FVec Ideal S1x24 .f32) := by
  rfl
/-- The filter's bias, at a column. -/
theorem v35_at (c : Dev nD) (z : Fin 24) :
    (V (F := Ideal) m c main_v35 : Vec Ideal S1x24 .f32) (ix2 0 z) = (m ((c : Thread nD τ).loc main_arg6) : Vec Ideal S1x1x3 .f32) (ix3 0 0 ⟨z.val % 3, by omega⟩) := by
  rw [v35_eq]
  pointwise

/-- The three combinations of the filter weights, stacked. -/
def mixT (w : FVec Ideal S3x1x128x3 .f32) : FVec Ideal S3x128x3 .f32 :=
  concatenate S3x128x3 0
    [⟨S1x128x3, addf (addf (shapeCast S1x128x3 (extractStridedSlice S1x1x128x3 ![0, 0, 0, 0] w slices_S3x1x128x3_S1x1x128x3_0_0_0_0) shapeCasts_S1x1x128x3_S1x128x3)
        (shapeCast S1x128x3 (extractStridedSlice S1x1x128x3 ![1, 0, 0, 0] w slices_S3x1x128x3_S1x1x128x3_1_0_0_0) shapeCasts_S1x1x128x3_S1x128x3))
        (shapeCast S1x128x3 (extractStridedSlice S1x1x128x3 ![2, 0, 0, 0] w slices_S3x1x128x3_S1x1x128x3_2_0_0_0) shapeCasts_S1x1x128x3_S1x128x3)⟩,
     ⟨S1x128x3, addf (shapeCast S1x128x3 (extractStridedSlice S1x1x128x3 ![1, 0, 0, 0] w slices_S3x1x128x3_S1x1x128x3_1_0_0_0) shapeCasts_S1x1x128x3_S1x128x3)
        (mulf (broadcastInDim S1x128x3 ![] bcast_S_S1x128x3 (constant S_ .f32 0x40800000#32))
          (shapeCast S1x128x3 (extractStridedSlice S1x1x128x3 ![2, 0, 0, 0] w slices_S3x1x128x3_S1x1x128x3_2_0_0_0) shapeCasts_S1x1x128x3_S1x128x3))⟩,
     ⟨S1x128x3, shapeCast S1x128x3 (extractStridedSlice S1x1x128x3 ![2, 0, 0, 0] w slices_S3x1x128x3_S1x1x128x3_2_0_0_0) shapeCasts_S1x1x128x3_S1x128x3⟩]
    concatenates_S1x128x3_S1x128x3_S1x128x3_S3x128x3_d0

/-- The identity matrix of the batch. -/
def eye8T : FVec Ideal S8x8 .f32 :=
  uitofp .f32 (cmpi .eq (addi (iotaInDim S8x8 32 0) (broadcastInDim S8x8 ![] bcast_S_S8x8 (constantI S_ 32 0#32))) (iotaInDim S8x8 32 1))

/-- The stacked weights, one copy for each batch on a block diagonal. -/
def spreadT (a : FVec Ideal S3x128x3 .f32) (e : FVec Ideal S8x8 .f32) : FVec Ideal S3x8x128x24 .f32 :=
  shapeCast S3x8x128x24 (mulf
    (broadcastInDim S3x8x128x8x3 ![0, 1, 2, 3, 4] bcast_S3x1x128x1x3_S3x8x128x8x3_0_1_2_3_4 (broadcastInDim S3x1x128x1x3 ![0, 2, 4] bcast_S3x128x3_S3x1x128x1x3_0_2_4 a))
    (broadcastInDim S3x8x128x8x3 ![0, 1, 2, 3, 4] bcast_S1x8x1x8x1_S3x8x128x8x3_0_1_2_3_4 (shapeCast S1x8x1x8x1 e shapeCasts_S8x8_S1x8x1x8x1)))
    shapeCasts_S3x8x128x8x3_S3x8x128x24

/-- The filter's weights as the host lines spread them. -/
theorem v31_eq (c : Dev nD) : V (F := Ideal) m c main_v31 = spreadT (mixT (m ((c : Thread nD τ).loc main_arg5))) eye8T := by
  rfl

/-- The batch's identity matrix at an index. -/
theorem eye8T_at (b d : Fin 8) : eye8T (ix2 b d) = (((if b = d then 1 else 0 : ℝ) : ℝ) : EReal) := by
  pointwise [eye8T]
  exact eye_entry b.val d.val (by omega) (by omega) b d rfl rfl

/-- The spread weights at an index. -/
theorem spreadT_at (a : FVec Ideal S3x128x3 .f32) (e : FVec Ideal S8x8 .f32) (t : Fin 3) (b : Fin 8) (k : Fin 128) (z : Fin 24) :
    spreadT a e (ix4 t b k z) = a (ix3 t k ⟨z.val % 3, by omega⟩) * e (ix2 b ⟨z.val / 3, by omega⟩) := by
  pointwise [spreadT]

/-- The first combination: the sum of the three weights. -/
theorem mixT0_at (w : FVec Ideal S3x1x128x3 .f32) (k : Fin 128) (o : Fin 3) :
    mixT w (ix3 0 k o) = w (ix4 0 0 k o) + w (ix4 1 0 k o) + w (ix4 2 0 k o) := by
  pointwise [mixT]
/-- The second combination: the second weight and four times the third. -/
theorem mixT1_at (w : FVec Ideal S3x1x128x3 .f32) (k : Fin 128) (o : Fin 3) :
    mixT w (ix3 1 k o) = w (ix4 1 0 k o) + Ideal.ofBits .f32 0x40800000#32 * w (ix4 2 0 k o) := by
  pointwise [mixT]
/-- The third combination: the third weight. -/
theorem mixT2_at (w : FVec Ideal S3x1x128x3 .f32) (k : Fin 128) (o : Fin 3) :
    mixT w (ix3 2 k o) = w (ix4 2 0 k o) := by
  pointwise [mixT]

/-! ## The windows' blocks -/

/-- The input block of a preparing point takes every batch, -/
theorem tP_idx0 (p : Fin 2) : win0_0.index (tP p) 0 = 0 := by
  fin_cases p <;> decide +kernel
/-- the half of the point, -/
theorem tP_idx1 (p : Fin 2) : win0_0.index (tP p) 1 = p.val := by
  fin_cases p <;> decide +kernel
/-- and every channel. -/
theorem tP_idx2 (p : Fin 2) : win0_0.index (tP p) 2 = 0 := by
  fin_cases p <;> decide +kernel

/-- The input block at an index. -/
theorem b0_at (c : Dev nD) (p : Fin 2) (i : Fin 8) (r : Fin 1024) (k : Fin 128) :
    b0 m c (tP p) (ix3 i r k) = (V (F := Ideal) m c main_arg0 : Vec Ideal S8x2048x128 .f32) (ix3 i ⟨p.val * 1024 + r.val, by omega⟩ k) := by
  unfold b0 iblk
  rw [View.read_apply]
  refine congrArg (V m c main_arg0) (funext fun a => Fin.ext ?_)
  fin_cases a
  · simp; exact tP_idx0 p
  · simp; exact tP_idx1 p
  · simp; exact tP_idx2 p
/-- The conditioning window is its whole array. -/
theorem b1_eq (c : Dev nD) (t : Fin cfg0.N) : b1 m c t = (V (F := Ideal) m c main_v0 : Vec Ideal S8x128 .f32) := by
  unfold b1 iblk
  funext x
  rw [View.read_apply]
  refine congrArg (V m c main_v0) (funext fun a => Fin.ext ?_)
  fin_cases a <;> simp <;> rfl
/-- The modulation weights' window is its whole array. -/
theorem b2_eq (c : Dev nD) (t : Fin cfg0.N) : b2 m c t = (V (F := Ideal) m c main_arg3 : Vec Ideal S128x256 .f32) := by
  unfold b2 iblk
  funext x
  rw [View.read_apply]
  refine congrArg (V m c main_arg3) (funext fun a => Fin.ext ?_)
  fin_cases a <;> simp <;> rfl
/-- The modulation bias's window is its whole array. -/
theorem b3_eq (c : Dev nD) (t : Fin cfg0.N) : b3 m c t = (V (F := Ideal) m c main_v1 : Vec Ideal S1x256 .f32) := by
  unfold b3 iblk
  funext x
  rw [View.read_apply]
  refine congrArg (V m c main_v1) (funext fun a => Fin.ext ?_)
  fin_cases a <;> simp <;> rfl
/-- The filter weights' window is its whole array. -/
theorem b4_eq (c : Dev nD) (t : Fin cfg0.N) : b4 m c t = (V (F := Ideal) m c main_v31 : Vec Ideal S3x8x128x24 .f32) := by
  unfold b4 iblk
  funext x
  rw [View.read_apply]
  refine congrArg (V m c main_v31) (funext fun a => Fin.ext ?_)
  fin_cases a <;> simp <;> rfl
/-- The filter bias's window is its whole array. -/
theorem b5_eq (c : Dev nD) (t : Fin cfg0.N) : b5 m c t = (V (F := Ideal) m c main_v35 : Vec Ideal S1x24 .f32) := by
  unfold b5 iblk
  funext x
  rw [View.read_apply]
  refine congrArg (V m c main_v35) (funext fun a => Fin.ext ?_)
  fin_cases a <;> simp <;> rfl

/-- The point that stores half `p` of the result. -/
def tQ (p : Fin 2) : Fin cfg0.N := if p = 0 then t0_6 else t0_7
/-- The result block of a storing point is the half of the point, -/
theorem tQ_idx0 (p : Fin 2) : win0_6.index (tQ p) 0 = p.val := by
  fin_cases p <;> decide +kernel
/-- and every column. -/
theorem tQ_idx1 (p : Fin 2) : win0_6.index (tQ p) 1 = 0 := by
  fin_cases p <;> decide +kernel
/-- Only the two storing points write the result back. -/
theorem flush_tQ : ∀ t : Fin cfg0.N, (cfg0.win 6).flush t = true → t = tQ 0 ∨ t = tQ 1 := by
  decide +kernel
/-- What a storing point stores. -/
theorem outAt_tQ (c : Dev nD) (p : Fin 2) : outAt m c (tQ p) = outP m c p (tQ p) := by
  fin_cases p <;> rfl

/-- The array is the one whose halves the two last points store. -/
theorem out_arr (c : Dev nD) (G : FVec Ideal S2048x24 .f32)
    (hG : ∀ p : Fin 2, outP m c p (tQ p) = blk p G) :
    (dats m 0 c).arrAt 6 cfg0.N = G := by
  refine (dats m 0 c).arrAt_eq_of_covers 6 _ (by decide +kernel) fun t hf y => ?_
  blk_simp
  have key : ∀ p : Fin 2, t = tQ p → (dats m 0 c).after 6 t y = G ((win0_6.blk t).view.emb y) := by
    intro p hp
    subst hp
    show outAt m c (tQ p) y = _
    rw [outAt_tQ, hG p]
    unfold blk
    refine congrArg G (funext fun a => Fin.ext ?_)
    fin_cases a
    · simp; rw [tQ_idx0]
    · simp; rw [tQ_idx1]
  rcases flush_tQ t hf with h | h
  · exact key 0 h
  · exact key 1 h

/-- The result is the array rearranged. -/
theorem tail_eq (c : Dev nD) : Pipeline.afterTail₀ cfgs (dats m) 0 (V0 m) [hostOps1] c main_v38
    = (transpose S8x2048x3 [1, 0, 2] (shapeCast S2048x8x3 ((dats m 0 c).arrAt 6 cfg0.N : FVec Ideal S2048x24 .f32) shapeCasts_S2048x24_S2048x8x3) transposes_S2048x8x3_S8x2048x3_1_0_2 : FVec Ideal S8x2048x3 .f32) := by
  have h : Pipeline.withArrays spec0 c (V0 m c) (fun w => (dats m 0 c).arrAt w cfg0.N) (Proc.devRef .tc main_v36) = (dats m 0 c).arrAt 6 cfg0.N :=
    Pipeline.withArrays_arr spec0 (by decide) c _ _ 6
  rw [← h]
  rfl

/-- The rearranged array at an index. -/
theorem tail_at (A : FVec Ideal S2048x24 .f32) (b : Fin 8) (n : Fin 2048) (o : Fin 3) :
    (transpose S8x2048x3 [1, 0, 2] (shapeCast S2048x8x3 A shapeCasts_S2048x24_S2048x8x3) transposes_S2048x8x3_S8x2048x3_1_0_2 : FVec Ideal S8x2048x3 .f32) (ix3 b n o)
      = A (ix2 n ⟨b.val * 3 + o.val, by omega⟩) := by
  pointwise
end Cert.KernelIdeal.Hand
end
-- ==== Proof.KernelRead.lean ====
module

public import proofs.«01_k».proof.Proof.HostRead

@[expose] public section

set_option maxRecDepth 16384

noncomputable section

/-! The kernel's scratch arrays and its result at an index: the real spectral filter of the prepared input. -/

namespace Cert.KernelIdeal.Hand

open Cert.KernelIdeal Cert.KernelIdeal.Gen Cert.Halves Cert.Alg
open Idealize.ShloMosaic Idealize.ShloMosaic.TcCoe

/-- Row `r` of half `p`. -/
def row (p : Fin 2) (r : Fin 1024) : Fin 2048 := ⟨p.val * 1024 + r.val, by omega⟩

/-- A half at a row is the array at that row of the half. -/
theorem blk_row {α : Type} {w : ℕ} (p : Fin 2) (G : (Big w).Idx → α) (r : Fin 1024) (z : Fin w) : blk p G (ix2 r z) = G (ix2 (row p r) z) := rfl

/-- An array of two halves, each known by its rows. -/
theorem cat_at {α : Type} {w : ℕ} (f : Fin 2 → (Half w).Idx → α) (G : Fin 2048 → Fin w → α)
    (h : ∀ p r z, f p (ix2 r z) = G (row p r) z) (n : Fin 2048) (z : Fin w) : cat f (ix2 n z) = G n z := by
  show f (halfOf (ix2 n z)) (ix2 ⟨n.val % 1024, Nat.mod_lt _ (by decide)⟩ z) = G n z
  rw [h]
  refine congrArg (fun i => G i z) (Fin.ext ?_)
  show n.val / 1024 * 1024 + n.val % 1024 = n.val
  omega

/-- A product with block-diagonal weights keeps one batch. -/
theorem diag_sum (y : Fin 8 → Fin 128 → ℝ) (g : Fin 128 → ℝ) (d : Fin 8) :
    ∑ b : Fin 8, ∑ k : Fin 128, (y b k : EReal) * ((g k : EReal) * (((if b = d then 1 else 0 : ℝ) : ℝ) : EReal)) = ((∑ k, y d k * g k : ℝ) : EReal) := by
  simp only [← EReal.coe_mul, coe_sum]
  refine congrArg _ ?_
  rw [Finset.sum_eq_single d]
  · simp
  · intro b _ hb
    simp [hb]
  · intro h
    exact absurd (Finset.mem_univ d) h

variable (m : (b : Loc nD τ sig) → Buf (Elt Ideal) b) (c : Dev nD)

/-- The arguments as arrays. -/
abbrev aX : FVec Ideal S8x2048x128 .f32 := m ((c : Thread nD τ).loc main_arg0)
abbrev aA : FVec Ideal S2048x2048 .f32 := m ((c : Thread nD τ).loc main_arg1)
abbrev aC : FVec Ideal S8x1x128 .f32 := m ((c : Thread nD τ).loc main_arg2)
abbrev aW : FVec Ideal S128x256 .f32 := m ((c : Thread nD τ).loc main_arg3)
abbrev aB : FVec Ideal S256 .f32 := m ((c : Thread nD τ).loc main_arg4)
abbrev aF : FVec Ideal S3x1x128x3 .f32 := m ((c : Thread nD τ).loc main_arg5)
abbrev aG : FVec Ideal S1x1x3 .f32 := m ((c : Thread nD τ).loc main_arg6)

/-- The modulation of the arguments. -/
def modA (i : Fin 8) (j : Fin 256) : EReal :=
  (∑ k : Fin 128, aC m c (ix3 i 0 k) * Ideal.logistic (aC m c (ix3 i 0 k)) * aW m c (ix2 k j)) + aB m c (ix1 j)

/-- Column `k` of the scales, and of the shifts, in the modulation. -/
def hiOf (k : Fin 128) : Fin 256 := ⟨128 + k.val, by omega⟩
def loOf (k : Fin 128) : Fin 256 := ⟨k.val, by omega⟩

/-- The kernel's modulation is that of the arguments. -/
theorem modK_eq (t : Fin cfg0.N) (i : Fin 8) (j : Fin 256) : modK (b1 m c t) (b2 m c t) (b3 m c t) i j = modA m c i j := by
  unfold modK modA
  rw [b1_eq, b2_eq, b3_eq, v1_at, V_main_arg3]
  refine congrArg (· + _) (Finset.sum_congr rfl fun k _ => ?_)
  rw [v0_at]

section
variable (D : Fin 2048 → ℝ) (hD : ∀ n, dis (fun n k : Fin 2048 => aA m c (ix2 n k)) n = D n)
  (hr : ∀ n, D n = 0 ∨ ∀ k, aA m c (ix2 n k) = ((aA m c (ix2 n k)).toReal : EReal))
  (w : Fin 3 → Fin 128 → Fin 3 → ℝ) (hw : ∀ t k o, aF m c (ix4 t 0 k o) = (w t k o : EReal))
  (y : Fin 8 → Fin 2048 → Fin 128 → ℝ)
  (hy : ∀ b n k, lnK (fun j => aX m c (ix3 b n j)) (modA m c b (hiOf k)) (modA m c b (loOf k)) k = (y b n k : EReal))

include hy in
/-- The prepared block at an index. -/
theorem xmAt_at (p : Fin 2) (i : Fin 8) (r : Fin 1024) (k : Fin 128) : xmAt m c (tP p) (ix3 i r k) = (y i (row p r) k : EReal) := by
  unfold xmAt
  rw [xmV_at, modK_eq, modK_eq, ← hy]
  simp only [b0_at, V_main_arg0]
  rfl

/-- The prepared input against weight matrix `t`, column `z` counting batch and output channel. -/
def pz (w : Fin 3 → Fin 128 → Fin 3 → ℝ) (y : Fin 8 → Fin 2048 → Fin 128 → ℝ) (z : Fin 24) (t : Fin 3) (n : Fin 2048) : ℝ :=
  ∑ k, y ⟨z.val / 3, by omega⟩ n k * w t k ⟨z.val % 3, by omega⟩

/-- The spread weights at an index, of the arguments. -/
theorem b4_at (t : Fin cfg0.N) (s : Fin 3) (b : Fin 8) (k : Fin 128) (z : Fin 24) :
    b4 m c t (ix4 s b k z) = mixT (aF m c) (ix3 s k ⟨z.val % 3, by omega⟩) * (((if b = ⟨z.val / 3, by omega⟩ then 1 else 0 : ℝ) : ℝ) : EReal) := by
  rw [b4_eq, v31_eq, spreadT_at, eye8T_at]

include hw hy in
/-- The first product of a half at an index. -/
theorem ysF_at (p : Fin 2) (r : Fin 1024) (z : Fin 24) :
    ysF m c p (ix2 r z) = ((pz w y z 0 (row p r) + pz w y z 1 (row p r) + pz w y z 2 (row p r) : ℝ) : EReal) := by
  unfold ysF
  rw [ysV_at]
  have hm : ∀ k : Fin 128, ∀ o : Fin 3, mixT (aF m c) (ix3 0 k o) = ((w 0 k o + w 1 k o + w 2 k o : ℝ) : EReal) := by
    intro k o
    rw [mixT0_at, hw, hw, hw, ← EReal.coe_add, ← EReal.coe_add]
  simp only [xmAt_at m c y hy, b4_at, hm, diag_sum]
  refine congrArg _ ?_
  unfold pz
  rw [← Finset.sum_add_distrib, ← Finset.sum_add_distrib]
  exact Finset.sum_congr rfl fun k _ => by ring

include hw hy in
/-- The second product of a half at an index. -/
theorem ybF_at (p : Fin 2) (r : Fin 1024) (z : Fin 24) :
    ybF m c p (ix2 r z) = ((pz w y z 1 (row p r) + 4 * pz w y z 2 (row p r) : ℝ) : EReal) := by
  unfold ybF
  rw [ybV_at]
  have hm : ∀ k : Fin 128, ∀ o : Fin 3, mixT (aF m c) (ix3 1 k o) = ((w 1 k o + 4 * w 2 k o : ℝ) : EReal) := by
    intro k o
    rw [mixT1_at, hw, hw, bits_4, ← EReal.coe_mul, ← EReal.coe_add]
  simp only [xmAt_at m c y hy, b4_at, hm, diag_sum]
  refine congrArg _ ?_
  unfold pz
  rw [Finset.mul_sum, ← Finset.sum_add_distrib]
  exact Finset.sum_congr rfl fun k _ => by ring

include hw hy in
/-- The third product of a half at an index. -/
theorem y2F_at (p : Fin 2) (r : Fin 1024) (z : Fin 24) : y2F m c p (ix2 r z) = ((pz w y z 2 (row p r) : ℝ) : EReal) := by
  unfold y2F
  rw [y2V_at]
  have hm : ∀ k : Fin 128, ∀ o : Fin 3, mixT (aF m c) (ix3 2 k o) = ((w 2 k o : ℝ) : EReal) := by
    intro k o
    rw [mixT2_at, hw]
  simp only [xmAt_at m c y hy, b4_at, hm, diag_sum]
  rfl

include hw hy in
/-- The first product at an index. -/
theorem YS_at (n : Fin 2048) (z : Fin 24) : YS m c (ix2 n z) = ((pz w y z 0 n + pz w y z 1 n + pz w y z 2 n : ℝ) : EReal) :=
  cat_at _ (fun n z => ((pz w y z 0 n + pz w y z 1 n + pz w y z 2 n : ℝ) : EReal)) (ysF_at m c w hw y hy) n z
include hw hy in
/-- The second product at an index. -/
theorem YB_at (n : Fin 2048) (z : Fin 24) : YB m c (ix2 n z) = ((pz w y z 1 n + 4 * pz w y z 2 n : ℝ) : EReal) :=
  cat_at _ (fun n z => ((pz w y z 1 n + 4 * pz w y z 2 n : ℝ) : EReal)) (ybF_at m c w hw y hy) n z
include hw hy in
/-- The third product at an index. -/
theorem Y2_at (n : Fin 2048) (z : Fin 24) : Y2 m c (ix2 n z) = ((pz w y z 2 n : ℝ) : EReal) :=
  cat_at _ (fun n z => ((pz w y z 2 n : ℝ) : EReal)) (y2F_at m c w hw y hy) n z

/-- The matrix in scratch is the argument. -/
theorem ADJ_at (n k : Fin 2048) : ADJ m c (ix2 n k) = aA m c (ix2 n k) := by
  unfold ADJ
  rw [V_main_arg1]

/-- The inverse square roots in scratch. -/
theorem DIS_at (n : Fin 2048) (z : Fin 1) : DIS m c (ix2 n z) = dis (fun n k : Fin 2048 => aA m c (ix2 n k)) n :=
  cat_at _ (fun n _ => dis (fun n k : Fin 2048 => aA m c (ix2 n k)) n) (fun p r z => by
    unfold disF
    rw [pay5_at]
    simp only [blk_row, ADJ_at]
    rfl) n z

include hw hy in
/-- The scaled third product at an index. -/
theorem Y2S_at (n : Fin 2048) (z : Fin 24) : Y2S m c (ix2 n z) = ((pz w y z 2 n : ℝ) : EReal) * dis (fun n k : Fin 2048 => aA m c (ix2 n k)) n :=
  cat_at _ (fun n z => ((pz w y z 2 n : ℝ) : EReal) * dis (fun n k : Fin 2048 => aA m c (ix2 n k)) n) (fun p r z => by
    unfold y2sF
    rw [pay6_at]
    simp only [blk_row, ADJ_at, Y2_at m c w hw y hy]
    rfl) n z

include hw hy in
/-- The first product with the matrix at an index. -/
theorem UU_at (n : Fin 2048) (z : Fin 24) : UU m c (ix2 n z)
    = ∑ l : Fin 2048, aA m c (ix2 n l) * (((pz w y z 2 l : ℝ) : EReal) * dis (fun n k : Fin 2048 => aA m c (ix2 n k)) l) :=
  cat_at _ (fun n z => ∑ l : Fin 2048, aA m c (ix2 n l) * (((pz w y z 2 l : ℝ) : EReal) * dis (fun n k : Fin 2048 => aA m c (ix2 n k)) l)) (fun p r z => by
    unfold uF
    rw [pay7_at]
    simp only [blk_row, ADJ_at, Y2S_at m c w hw y hy]) n z

include hD hr hw hy in
/-- A stored half at a row: the real filter of the prepared input, and the bias. -/
theorem outP_at (p : Fin 2) (t : Fin cfg0.N) (r : Fin 1024) (z : Fin 24) :
    outP m c p t (ix2 r z) = (filt (fun n k => (aA m c (ix2 n k)).toReal) D (pz w y z) (row p r) : EReal) + aG m c (ix3 0 0 ⟨z.val % 3, by omega⟩) := by
  unfold outP RHS
  rw [pay9_at, b5_eq, v35_at, ← kernel_way (fun n k : Fin 2048 => aA m c (ix2 n k)) D hD hr]
  simp only [blk_row, ADJ_at, YS_at m c w hw y hy, DIS_at, pay8_at, YB_at m c w hw y hy, UU_at m c w hw y hy]

include hD hr hw hy in
/-- The kernel's result at an index. -/
theorem result_at (b : Fin 8) (n : Fin 2048) (o : Fin 3) :
    (Pipeline.afterTail₀ cfgs (dats m) 0 (V0 m) [hostOps1] c main_v38 : FVec Ideal S8x2048x3 .f32) (ix3 b n o)
      = (filt (fun n k => (aA m c (ix2 n k)).toReal) D (fun t l => ∑ k, y b l k * w t k o) n : EReal) + aG m c (ix3 0 0 o) := by
  rw [tail_eq, tail_at, out_arr m c (fun i => (filt (fun n k => (aA m c (ix2 n k)).toReal) D (pz w y (i (1 : Fin 2))) (i (0 : Fin 2)) : EReal) + aG m c (ix3 0 0 ⟨(i (1 : Fin 2)).val % 3, Nat.mod_lt _ (by decide)⟩))]
  · have h1 : (⟨(b.val * 3 + o.val) / 3, by omega⟩ : Fin 8) = b := Fin.ext (by show (b.val * 3 + o.val) / 3 = b.val; omega)
    have h2 : (⟨(b.val * 3 + o.val) % 3, by omega⟩ : Fin 3) = o := Fin.ext (by show (b.val * 3 + o.val) % 3 = o.val; omega)
    have h3 : pz w y ⟨b.val * 3 + o.val, by omega⟩ = fun t l => ∑ k, y b l k * w t k o := by
      funext t l
      unfold pz
      rw [h1, h2]
    show (filt _ D (pz w y ⟨b.val * 3 + o.val, _⟩) n : EReal) + aG m c (ix3 0 0 ⟨(b.val * 3 + o.val) % 3, _⟩) = _
    rw [h3, h2]
  · intro p
    funext x
    rw [show x = ix2 (x (0 : Fin 2)) (x (1 : Fin 2)) from funext (Fin.forall_fin_two.mpr ⟨rfl, rfl⟩)]
    exact outP_at m c D hD hr w hw y hy p (tQ p) (x (0 : Fin 2)) (x (1 : Fin 2))
end

end Cert.KernelIdeal.Hand
end
-- ==== Proof.RefRead.lean ====
module

public import proofs.«01_k».proof.Proof.Gen.ReferenceIdeal.Run
public import proofs.«01_k».proof.Proof.Algebra
public import Idealize.ShloMosaic.Lib.Pointwise
public import Idealize.ShloMosaic.Lib.IdealHost

@[expose] public section

set_option maxRecDepth 16384

noncomputable section

/-! The reference's result in named parts, each read at an index. -/

namespace Cert.ReferenceIdeal.Hand

open Cert.ReferenceIdeal Cert.ReferenceIdeal.Gen Cert.ReferenceIdeal.Value
open Idealize.ShloMosaic Cert.Alg

variable (x : FVec Ideal S8x2048x128 .f32) (adj : FVec Ideal S2048x2048 .f32) (cc : FVec Ideal S8x1x128 .f32)
  (W : FVec Ideal S128x256 .f32) (b1 : FVec Ideal S256 .f32) (cw : FVec Ideal S3x1x128x3 .f32) (cb : FVec Ideal S1x1x3 .f32)

/-- The modulation: the activated conditioning times the weights, plus the bias. -/
def modT : FVec Ideal S8x1x256 .f32 :=
  addf (Host.dotGeneral dot_S8x1x128_S128x256_S8x1x256_2_0_01_1_n_n none (mulf cc (Host.divf (broadcastInDim S8x1x128 ![] bcast_S_S8x1x128 (constant S_ .f32 0x3F800000#32)) (addf (broadcastInDim S8x1x128 ![] bcast_S_S8x1x128 (constant S_ .f32 0x3F800000#32)) (Host.exp (Host.negf cc))))) W) (broadcastInDim S8x1x256 ![0, 1, 2] bcast_S1x1x256_S8x1x256_0_1_2 (broadcastInDim S1x1x256 ![2] bcast_S256_S1x1x256_2 b1))

/-- The rows' means. -/
def meanT : FVec Ideal S8x2048x1 .f32 :=
  Host.divf (broadcastInDim S8x2048x1 ![0, 1] bcast_S8x2048_S8x2048x1_0_1 (Host.reduceAdd x (constant S_ .f32 0x00000000#32) reducesTo_S8x2048x128_S8x2048_d2 h_S_)) (broadcastInDim S8x2048x1 ![] bcast_S_S8x2048x1 (constant S_ .f32 0x43000000#32))

/-- The rows less their means. -/
def cenT : FVec Ideal S8x2048x128 .f32 := subf x (broadcastInDim S8x2048x128 ![0, 1, 2] bcast_S8x2048x1_S8x2048x128_0_1_2 (meanT x))

/-- The number of entries a row's variance is divided by. -/
def cntT : FVec Ideal S_ .f32 := subf (constant S_ .f32 0x43000000#32) (sitofp .f32 (constantI S_ 32 0#32))

/-- The rows' variances. -/
def varT : FVec Ideal S8x2048x1 .f32 :=
  select (broadcastInDim S8x2048x1 ![] bcast_S_S8x2048x1 (cmpf .ogt cntT (constant S_ .f32 0x00000000#32))) (Host.divf (broadcastInDim S8x2048x1 ![0, 1] bcast_S8x2048_S8x2048x1_0_1 (Host.reduceAdd (mulf (cenT x) (cenT x)) (constant S_ .f32 0x00000000#32) reducesTo_S8x2048x128_S8x2048_d2 h_S_)) (broadcastInDim S8x2048x1 ![] bcast_S_S8x2048x1 cntT)) (broadcastInDim S8x2048x1 ![] bcast_S_S8x2048x1 (id (constant S_ .f32 0x7FC00000#32)))

/-- The modulated, normalised input, of a modulation `md`. -/
def xmT (md : FVec Ideal S8x1x256 .f32) : FVec Ideal S8x2048x128 .f32 :=
  addf (mulf (Host.divf (cenT x) (broadcastInDim S8x2048x128 ![0, 1, 2] bcast_S8x2048x1_S8x2048x128_0_1_2 (Host.sqrt (addf (varT x) (broadcastInDim S8x2048x1 ![] bcast_S_S8x2048x1 (constant S_ .f32 0x358637BD#32)))))) (broadcastInDim S8x2048x128 ![0, 1, 2] bcast_S8x1x128_S8x2048x128_0_1_2 (addf (broadcastInDim S8x1x128 ![] bcast_S_S8x1x128 (constant S_ .f32 0x3F800000#32)) (extractStridedSlice S8x1x128 ![0, 0, 128] md slices_S8x1x256_S8x1x128_0_0_128)))) (broadcastInDim S8x2048x128 ![0, 1, 2] bcast_S8x1x128_S8x2048x128_0_1_2 (extractStridedSlice S8x1x128 ![0, 0, 0] md slices_S8x1x256_S8x1x128_0_0_0))

/-- The identity matrix. -/
def eyeT : FVec Ideal S2048x2048 .f32 :=
  uitofp .f32 (cmpi .eq (addi (iotaInDim S2048x2048 32 0) (broadcastInDim S2048x2048 ![] bcast_S_S2048x2048 (constantI S_ 32 0#32))) (iotaInDim S2048x2048 32 1))

/-- The inverse square roots of the row sums. -/
def disT : FVec Ideal S2048 .f32 :=
  Host.divf (broadcastInDim S2048 ![] bcast_S_S2048 (constant S_ .f32 0x3F800000#32)) (Host.sqrt (Host.reduceAdd adj (constant S_ .f32 0x00000000#32) reducesTo_S2048x2048_S2048_d1 h_S_))

/-- The normalised Laplacian, of the inverse square roots `d` and an identity matrix `e`. -/
def lapT (e : FVec Ideal S2048x2048 .f32) (d : FVec Ideal S2048 .f32) : FVec Ideal S2048x2048 .f32 :=
  subf e (mulf (mulf (broadcastInDim S2048x2048 ![0, 1] bcast_S2048x1_S2048x2048_0_1 (broadcastInDim S2048x1 ![0] bcast_S2048_S2048x1_0 d)) adj) (broadcastInDim S2048x2048 ![0, 1] bcast_S1x2048_S2048x2048_0_1 (broadcastInDim S1x2048 ![1] bcast_S2048_S1x2048_1 d)))

/-- The second Chebyshev polynomial of a matrix `l`. -/
def chebT (e l : FVec Ideal S2048x2048 .f32) : FVec Ideal S2048x2048 .f32 :=
  subf (mulf (broadcastInDim S2048x2048 ![] bcast_S_S2048x2048 (constant S_ .f32 0x40000000#32)) (Host.dotGeneral dot_S2048x2048_S2048x2048_S2048x2048_1_0_0_1_n_n none l l)) e

/-- Three matrices stacked. -/
def stackT (p q r : FVec Ideal S2048x2048 .f32) : FVec Ideal S3x2048x2048 .f32 :=
  concatenate S3x2048x2048 0 [⟨S1x2048x2048, ((broadcastInDim S1x2048x2048 ![1, 2] bcast_S2048x2048_S1x2048x2048_1_2 p) : (⟨S1x2048x2048, .f32⟩ : BufTy).Contents (Elt Ideal))⟩, ⟨S1x2048x2048, ((broadcastInDim S1x2048x2048 ![1, 2] bcast_S2048x2048_S1x2048x2048_1_2 q) : (⟨S1x2048x2048, .f32⟩ : BufTy).Contents (Elt Ideal))⟩, ⟨S1x2048x2048, ((broadcastInDim S1x2048x2048 ![1, 2] bcast_S2048x2048_S1x2048x2048_1_2 r) : (⟨S1x2048x2048, .f32⟩ : BufTy).Contents (Elt Ideal))⟩] concatenates_S1x2048x2048_S1x2048x2048_S1x2048x2048_S3x2048x2048_d0

/-- The stacked matrices times the input. -/
def resT (s : FVec Ideal S3x2048x2048 .f32) (xm : FVec Ideal S8x2048x128 .f32) : FVec Ideal S3x2048x8x128 .f32 :=
  Host.dotGeneral dot_S3x2048x2048_S8x2048x128_S3x2048x8x128_2_1_01_02_n_n none (shapeCast _ (broadcastInDim S3x1x2048x2048 ![0, 2, 3] bcast_S3x2048x2048_S3x1x2048x2048_0_2_3 s) shapeCasts_S3x1x2048x2048_S3x2048x2048) xm

/-- The products with the weights, summed over the three, plus the bias. -/
def outT (s : FVec Ideal S3x2048x8x128 .f32) : FVec Ideal S8x2048x3 .f32 :=
  addf (Host.reduceAdd (Host.dotGeneral dot_S3x8x2048x128_S3x128x3_S3x8x2048x3_3_1_12_2_0_0 none (transpose S3x8x2048x128 [0, 2, 1, 3] s transposes_S3x2048x8x128_S3x8x2048x128_0_2_1_3) (shapeCast _ cw shapeCasts_S3x1x128x3_S3x128x3)) (constant S_ .f32 0x00000000#32) reducesTo_S3x8x2048x3_S8x2048x3_d0 h_S_) (broadcastInDim S8x2048x3 ![0, 1, 2] bcast_S1x1x3_S8x2048x3_0_1_2 cb)

/-- The whole. -/
def refT : FVec Ideal S8x2048x3 .f32 :=
  outT cw cb (resT (stackT eyeT (lapT adj eyeT (disT adj)) (chebT eyeT (lapT adj eyeT (disT adj)))) (xmT x (modT cc W b1)))

/-- The printed result is the parts put together. -/
theorem res_eq (m : (ℓ : Loc nD τ sig) → Buf (Elt Ideal) ℓ) (c : Dev nD) :
    res_out0 (F := Ideal) m c = refT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold res_out0 res_main_v58 refT outT resT stackT chebT lapT disT eyeT xmT varT cntT cenT meanT modT
  rfl

/-! ## The parts at an index -/

/-- The modulation at an index. -/
theorem modT_at (b : Fin 8) (z : Fin 1) (j : Fin 256) :
    modT cc W b1 (ix3 b z j) = (∑ k : Fin 128, cc (ix3 b z k) * Ideal.logistic (cc (ix3 b z k)) * W (ix2 k j)) + b1 (ix1 j) := by
  pointwise [modT]; rfl
/-- The mean of a row. -/
theorem meanT_at (b : Fin 8) (n : Fin 2048) (z : Fin 1) : meanT x (ix3 b n z) = Ideal.div (∑ k : Fin 128, x (ix3 b n k)) (Ideal.ofBits .f32 0x43000000#32) := by
  pointwise [meanT]
/-- The number of terms the variance divides by. -/
theorem cntT_at : cntT ix0 = Ideal.ofBits .f32 0x43000000#32 := by
  pointwise [cntT]
  show _ - (((0#32 : BitVec 32).toInt : ℝ) : EReal) = _
  simp
/-- A row less its mean. -/
theorem cenT_at (b : Fin 8) (n : Fin 2048) (k : Fin 128) : cenT x (ix3 b n k) = cen (fun j => x (ix3 b n j)) k := by
  pointwise [cenT]
  rw [meanT_at]; rfl
/-- The variance of a row. -/
theorem varT_at (b : Fin 8) (n : Fin 2048) (z : Fin 1) :
    varT x (ix3 b n z) = Ideal.div (∑ j, cen (fun j => x (ix3 b n j)) j * cen (fun j => x (ix3 b n j)) j) (Ideal.ofBits .f32 0x43000000#32) := by
  pointwise [varT]
  rw [cntT_at, if_pos (by rw [bits_128]; exact EReal.coe_pos.mpr (by norm_num))]
  simp only [cenT_at]
/-- The prepared input at an index. -/
theorem xmT_at (md : FVec Ideal S8x1x256 .f32) (b : Fin 8) (n : Fin 2048) (k : Fin 128) :
    xmT x md (ix3 b n k) = lnR (fun j => x (ix3 b n j)) (md (ix3 b 0 ⟨128 + k.val, by omega⟩)) (md (ix3 b 0 ⟨k.val, by omega⟩)) k := by
  pointwise [xmT]
  rw [cenT_at, varT_at]; rfl
/-- The identity matrix at an index. -/
theorem eyeT_at (n k : Fin 2048) : eyeT (ix2 n k) = (((if n = k then 1 else 0 : ℝ) : ℝ) : EReal) := by
  pointwise [eyeT]
  exact eye_entry n.val k.val (by omega) (by omega) n k rfl rfl
/-- The inverse square root of a row sum. -/
theorem disT_at (n : Fin 2048) : disT adj (ix1 n) = dis (fun n m : Fin 2048 => adj (ix2 n m)) n := by
  pointwise [disT]; rfl
/-- The Laplacian at an index. -/
theorem lapT_at (e : FVec Ideal S2048x2048 .f32) (d : FVec Ideal S2048 .f32) (n k : Fin 2048) :
    lapT adj e d (ix2 n k) = e (ix2 n k) - d (ix1 n) * adj (ix2 n k) * d (ix1 k) := by
  pointwise [lapT]
/-- The second Chebyshev matrix at an index. -/
theorem chebT_at (e l : FVec Ideal S2048x2048 .f32) (n k : Fin 2048) :
    chebT e l (ix2 n k) = Ideal.ofBits .f32 0x40000000#32 * (∑ j : Fin 2048, l (ix2 n j) * l (ix2 j k)) - e (ix2 n k) := by
  pointwise [chebT]
/-- The three stacked matrices at an index. -/
theorem stackT_at (p q r : FVec Ideal S2048x2048 .f32) (t : Fin 3) (n k : Fin 2048) :
    stackT p q r (ix3 t n k) = if t = 0 then p (ix2 n k) else if t = 1 then q (ix2 n k) else r (ix2 n k) := by
  pointwise [stackT]
  fin_cases t <;> rfl
/-- A matrix applied to the prepared input, at an index. -/
theorem resT_at (s : FVec Ideal S3x2048x2048 .f32) (xm : FVec Ideal S8x2048x128 .f32) (t : Fin 3) (n : Fin 2048) (b : Fin 8) (k : Fin 128) :
    resT s xm (ix4 t n b k) = ∑ m : Fin 2048, s (ix3 t n m) * xm (ix3 b m k) := by
  pointwise [resT]
/-- The products with the weights summed, and the bias, at an index. -/
theorem outT_at (s : FVec Ideal S3x2048x8x128 .f32) (b : Fin 8) (n : Fin 2048) (o : Fin 3) :
    outT cw cb s (ix3 b n o) = (∑ t : Fin 3, ∑ k : Fin 128, s (ix4 t n b k) * cw (ix4 t 0 k o)) + cb (ix3 0 0 o) := by
  pointwise [outT]

/-! ## The whole at an index -/

/-- With real inverse square roots, a real normalised input and real weights, the reference's result is the real filter plus the bias. -/
theorem refT_at (D : Fin 2048 → ℝ) (hD : ∀ n, dis (fun n m : Fin 2048 => adj (ix2 n m)) n = D n)
    (hr : ∀ n, D n = 0 ∨ ∀ m, adj (ix2 n m) = ((adj (ix2 n m)).toReal : EReal))
    (w : Fin 3 → Fin 128 → Fin 3 → ℝ) (hw : ∀ t k o, cw (ix4 t 0 k o) = (w t k o : EReal))
    (y : Fin 8 → Fin 2048 → Fin 128 → ℝ)
    (hy : ∀ b n k, lnR (fun j => x (ix3 b n j)) (modT cc W b1 (ix3 b 0 ⟨128 + k.val, by omega⟩)) (modT cc W b1 (ix3 b 0 ⟨k.val, by omega⟩)) k = (y b n k : EReal))
    (b : Fin 8) (n : Fin 2048) (o : Fin 3) :
    refT x adj cc W b1 cw cb (ix3 b n o)
      = (filt (fun n m : Fin 2048 => (adj (ix2 n m)).toReal) D (fun t m => ∑ k, y b m k * w t k o) n : EReal) + cb (ix3 0 0 o) := by
  have hL : ∀ n m : Fin 2048, lapT adj eyeT (disT adj) (ix2 n m) = (lapR (fun n m : Fin 2048 => (adj (ix2 n m)).toReal) D n m : EReal) := by
    intro n m
    rw [lapT_at, eyeT_at, disT_at, disT_at, hD, hD, scaled_entry (fun n m : Fin 2048 => adj (ix2 n m)) D hr n m, ← EReal.coe_mul, ← EReal.coe_sub]
    rfl
  have hT : ∀ (t : Fin 3) (n m : Fin 2048), stackT eyeT (lapT adj eyeT (disT adj)) (chebT eyeT (lapT adj eyeT (disT adj))) (ix3 t n m)
      = (chebR (fun n m : Fin 2048 => (adj (ix2 n m)).toReal) D t n m : EReal) := by
    intro t n m
    rw [stackT_at]
    unfold chebR
    by_cases h0 : t = 0
    · rw [if_pos h0, if_pos h0, eyeT_at]
    · rw [if_neg h0, if_neg h0]
      by_cases h1 : t = 1
      · rw [if_pos h1, if_pos h1, hL]
      · rw [if_neg h1, if_neg h1, chebT_at, eyeT_at, bits_2]
        simp only [hL, ← EReal.coe_mul, coe_sum, ← EReal.coe_sub]
  unfold refT
  rw [outT_at, ← reference_way]
  simp only [resT_at, hT, xmT_at, hy, hw]

end Cert.ReferenceIdeal.Hand
end
-- ==== Proof.PreRead.lean ====
module

public import proofs.«01_k».proof.Pre_defined
public import proofs.«01_k».proof.Proof.Algebra
public import Idealize.ShloMosaic.Lib.Pointwise

@[expose] public section

set_option maxRecDepth 16384

noncomputable section

/-! The precondition at an index: no row of the matrix sums to zero, the conditioning input is below infinity, the
modulation's weights and bias and the filter's weights are finite. -/

namespace Cert.Pre_defined.Hand

open Cert.Pre_defined Cert.Alg
open Idealize.ShloMosaic

/-- The side conditions of the precondition's operations. -/
theorem facts : Cert.Pre_defined.Facts where
  reducesTo_S2048x2048_S2048_d1 := by decide
  h_S_ := by decide
  bcast_S_S2048 := by decide
  bcast_S_S8x1x128 := by decide
  bcast_S_S128x256 := by decide
  bcast_S_S256 := by decide
  bcast_S_S3x1x128x3 := by decide

/-- Of a comparison with zero. -/
theorem une_true (a : EReal) (h : FloatOps.cmpf (F := Ideal) (φ := .f32) .une a (Ideal.ofBits .f32 0x00000000#32) = 1#1) : a ≠ 0 := by
  rintro rfl
  revert h
  simp [FloatOps.cmpf, Ideal.cmp, Ideal.ofBits, Ideal.ieee]

/-- Of a comparison with infinity. -/
theorem olt_true (a : EReal) (h : FloatOps.cmpf (F := Ideal) (φ := .f32) .olt a (Ideal.ofBits .f32 0x7F800000#32) = 1#1) : a ≠ ⊤ := by
  rintro rfl
  revert h
  rw [bits_top]
  simp [FloatOps.cmpf, Ideal.cmp]

/-- A magnitude below infinity is that of a real. -/
theorem abs_true (a : EReal) (h : FloatOps.cmpf (F := Ideal) (φ := .f32) .olt (max a (-a)) (Ideal.ofBits .f32 0x7F800000#32) = 1#1) : ∃ r : ℝ, a = r := by
  have h1 := olt_true _ h
  induction a with
  | bot => exact absurd (by simp) h1
  | top => exact absurd (by simp) h1
  | coe r => exact ⟨r, rfl⟩

variable [Facts]
variable (x : FVec Ideal S8x2048x128 .f32) (adj : FVec Ideal S2048x2048 .f32) (cc : FVec Ideal S8x1x128 .f32) (W : FVec Ideal S128x256 .f32)
  (b1 : FVec Ideal S256 .f32) (cw : FVec Ideal S3x1x128x3 .f32) (cb : FVec Ideal S1x1x3 .f32)

/-- No row of the matrix sums to zero. -/
theorem row_ne (h : (fn x adj cc W b1 cw cb).1 = fun _ => 1#1) (n : Fin 2048) : (∑ k : Fin 2048, adj (ix2 n k)) ≠ 0 := by
  have e := congrFun h (ix1 n)
  refine une_true _ (Eq.trans ?_ e)
  pointwise [fn]

/-- The conditioning input is below infinity. -/
theorem cond_ne (h : (fn x adj cc W b1 cw cb).2.1 = fun _ => 1#1) (i : Fin 8) (z : Fin 1) (k : Fin 128) : cc (ix3 i z k) ≠ ⊤ := by
  have e := congrFun h (ix3 i z k)
  refine olt_true _ (Eq.trans ?_ e)
  pointwise [fn]

/-- The modulation's weights are real. -/
theorem weight_real (h : (fn x adj cc W b1 cw cb).2.2.1 = fun _ => 1#1) (k : Fin 128) (j : Fin 256) : ∃ r : ℝ, W (ix2 k j) = r := by
  have e := congrFun h (ix2 k j)
  refine abs_true _ (Eq.trans ?_ e)
  pointwise [fn]
  rfl

/-- The modulation's bias is real. -/
theorem bias_real (h : (fn x adj cc W b1 cw cb).2.2.2.1 = fun _ => 1#1) (j : Fin 256) : ∃ r : ℝ, b1 (ix1 j) = r := by
  have e := congrFun h (ix1 j)
  refine abs_true _ (Eq.trans ?_ e)
  pointwise [fn]
  rfl

/-- The filter's weights are real. -/
theorem filter_real (h : (fn x adj cc W b1 cw cb).2.2.2.2 = fun _ => 1#1) (t : Fin 3) (k : Fin 128) (o : Fin 3) : ∃ r : ℝ, cw (ix4 t 0 k o) = r := by
  have e := congrFun h (ix4 t 0 k o)
  refine abs_true _ (Eq.trans ?_ e)
  pointwise [fn]
  rfl

end Cert.Pre_defined.Hand
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.LaunchK
public import proofs.«01_k».proof.Proof.LaunchI
public import proofs.«01_k».proof.Proof.KernelRead
public import proofs.«01_k».proof.Proof.RefRead
public import proofs.«01_k».proof.Proof.PreRead

@[expose] public section

noncomputable section

namespace Cert.Proof

open Idealize.ShloMosaic Idealize.SL.Sem
open Cert.Alg Cert.KernelIdeal.Hand

/-- The printed kernel runs, keeps its arguments, and ends with every counter at zero. -/
theorem frame_kernel : Cert.quiescent_Kernel := fun m ρ _ => Cert.Kernel.Hand.frame m ρ

/-- The idealized kernel runs, keeps its arguments, and ends with every counter at zero. -/
theorem frame_kernelIdeal : Cert.quiescent_KernelIdeal := fun m ρ _ => Cert.KernelIdeal.Hand.frame m ρ

/-- The idealized kernel does so on the arguments the precondition names, too. -/
theorem frame_kernelIdeal_defined : Cert.quiescent_KernelIdeal_pre_defined (hPre_defined := Cert.Pre_defined.Hand.facts) :=
  fun m ρ _ => Cert.KernelIdeal.Hand.frame m ρ

/-- The idealized reference runs, keeps its arguments, and ends with every counter at zero. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealized reference does so on the arguments the precondition names, too. -/
theorem frame_referenceIdeal_defined : Cert.quiescent_ReferenceIdeal_pre_defined (hPre_defined := Cert.Pre_defined.Hand.facts) :=
  fun m ρ _ => frame_referenceIdeal m ρ trivial

/-- Of a conditioning input below infinity and finite weights and bias, the modulation is real. -/
theorem mod_real (m : (ℓ : Loc Cert.KernelIdeal.nD Cert.KernelIdeal.τ Cert.KernelIdeal.sig) → Buf (Elt Ideal) ℓ) (c : Dev Cert.KernelIdeal.nD)
    (hC : ∀ i k, aC m c (ix3 i 0 k) ≠ ⊤) (hW : ∀ k j, ∃ r : ℝ, aW m c (ix2 k j) = r) (hB : ∀ j, ∃ r : ℝ, aB m c (ix1 j) = r)
    (i : Fin 8) (j : Fin 256) : ∃ r : ℝ, modA m c i j = r := by
  choose s hs using fun k => silu_real (aC m c (ix3 i 0 k)) (hC i k)
  choose w hw using fun k => hW k j
  obtain ⟨b, hb⟩ := hB j
  refine ⟨(∑ k, s k * w k) + b, ?_⟩
  unfold modA
  rw [hb, EReal.coe_add, ← coe_sum]
  refine congrArg (· + _) (Finset.sum_congr rfl fun k _ => ?_)
  rw [hs, hw, ← EReal.coe_mul]

/-- On the arguments the precondition names, the kernel's result and the reference's are one array. -/
theorem values (m : (ℓ : Loc Cert.KernelIdeal.nD Cert.KernelIdeal.τ Cert.KernelIdeal.sig) → Buf (Elt Ideal) ℓ)
    (hpre : Cert.Pre_KernelIdeal_defined (hPre_defined := Cert.Pre_defined.Hand.facts) m) (c : Dev Cert.KernelIdeal.nD) :
    Cert.ReferenceIdeal.Hand.refT (aX m c) (aA m c) (aC m c) (aW m c) (aB m c) (aF m c) (aG m c)
      = (Pipeline.afterTail₀ Cert.KernelIdeal.cfgs (Cert.KernelIdeal.Hand.dats m) 0 (Cert.KernelIdeal.Gen.V0 m) [Cert.KernelIdeal.Gen.hostOps1] c Cert.KernelIdeal.main_v38 : FVec Ideal Cert.KernelIdeal.S8x2048x3 .f32) := by
  letI := Cert.Pre_defined.Hand.facts
  obtain ⟨h1, h2, h3, h4, h5⟩ := hpre c
  choose D hD hr using fun n => dis_row (fun n k : Fin 2048 => aA m c (ix2 n k)) n (Cert.Pre_defined.Hand.row_ne _ _ _ _ _ _ _ h1 n)
  choose w hw using Cert.Pre_defined.Hand.filter_real _ _ _ _ _ _ _ h5
  choose md hmd using mod_real m c (fun i k => Cert.Pre_defined.Hand.cond_ne _ _ _ _ _ _ _ h2 i 0 k)
    (Cert.Pre_defined.Hand.weight_real _ _ _ _ _ _ _ h3) (Cert.Pre_defined.Hand.bias_real _ _ _ _ _ _ _ h4)
  choose y hy using fun (b : Fin 8) (n : Fin 2048) (k : Fin 128) =>
    ln_eq (fun j => aX m c (ix3 b n j)) (md b (hiOf k)) (md b (loOf k)) k
  funext i
  rw [show i = ix3 (i (0 : Fin 3)) (i (1 : Fin 3)) (i (2 : Fin 3)) from funext (Fin.forall_fin_succ.mpr ⟨rfl, Fin.forall_fin_two.mpr ⟨rfl, rfl⟩⟩)]
  refine (Cert.ReferenceIdeal.Hand.refT_at _ _ _ _ _ _ _ D hD hr w hw y ?_ _ _ _).trans (result_at m c D hD hr w hw y ?_ _ _ _).symm
  · intro b n k
    rw [Cert.ReferenceIdeal.Hand.modT_at, Cert.ReferenceIdeal.Hand.modT_at]
    refine Eq.trans ?_ (hy b n k).2
    rw [← hmd, ← hmd]
    rfl
  · intro b n k
    rw [hmd, hmd]
    exact (hy b n k).1

/-- The kernel and the reference, on the arguments the precondition names, run and end with equal results. -/
theorem algebraic : Cert.algebraic_KernelIdeal_ReferenceIdeal_pre_defined (hPre_defined := Cert.Pre_defined.Hand.facts) := by
  intro m g m' g' hpre hagree
  refine ⟨fun c => Pipeline.afterTail₀ Cert.KernelIdeal.cfgs (Cert.KernelIdeal.Hand.dats m) 0 (Cert.KernelIdeal.Gen.V0 m) [Cert.KernelIdeal.Gen.hostOps1] c Cert.KernelIdeal.main_v38, ?_, ?_⟩
  · exact Cert.KernelIdeal.Hand.result m g
  · refine (θ_run Cert.ReferenceIdeal.defs _ _).mono (fun r h c => ⟨(h c).1.trans ?_, (h c).2⟩) (Cert.ReferenceIdeal.Value.run (F := Ideal) m' g')
    obtain ⟨a0, a1, a2, a3, a4, a5, a6⟩ := hagree c
    refine Eq.trans ?_ (values m hpre c)
    refine (Cert.ReferenceIdeal.Hand.res_eq m' c).trans ?_
    rw [a0, a1, a2, a3, a4, a5, a6]

theorem claim : Cert.Claim := ⟨Cert.Kernel.Gen.facts, Cert.KernelIdeal.Gen.facts, Cert.ReferenceIdeal.Gen.facts, Cert.Pre_defined.Hand.facts,
  frame_kernel, frame_kernelIdeal, frame_kernelIdeal_defined, frame_referenceIdeal, frame_referenceIdeal_defined, trivial, algebraic⟩

end Cert.Proof

end
